-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v37)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v37) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v101) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v6_0)) (v1 : (c : Dev Cert.ProjectionIdeal.nD) → Buf (Elt Ideal) ((c.tc : Thread Cert.ProjectionIdeal.nD Cert.ProjectionIdeal.τ).loc Cert.ProjectionIdeal.main_v6_1)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v6_0) = v0 c
          ∧ r.2.mem ((c.tc : Thread Cert.ProjectionIdeal.nD Cert.ProjectionIdeal.τ).loc Cert.ProjectionIdeal.main_v6_1) = v1 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v16) = v0 c
          ∧ r.2.mem ((c.tc : Thread Cert.ProjectionReferenceIdeal.nD Cert.ProjectionReferenceIdeal.τ).loc Cert.ProjectionReferenceIdeal.main_v18) = v1 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjection : Cert.Projection.Facts) (hProjectionIdeal : Cert.ProjectionIdeal.Facts) (hProjectionReferenceIdeal : Cert.ProjectionReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite.lean ====
abbrev S16x2048x1536 : Shape := ⟨3, ![16, 2048, 1536]⟩
abbrev S8x320 : Shape := ⟨2, ![8, 320]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S16x2048x1536 .f32) (main_arg1 : FVec F S8x320 .f32) : IVec S_ 1 :=
  let main_v0 : FVec F S16x2048x1024 .f32 := (extractStridedSlice S16x2048x1024 ![0, 0, 0] · slices_S16x2048x1536_S16x2048x1024_0_0_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S8x320 .f32 := Host.absf main_arg1
  let main_cst_0 : FVec F S_ .f32 := constant S_ .f32 0x7F800000#32
  let main_v6 : FVec F S8x320 .f32 := broadcastInDim S8x320 ![] bcast_S_S8x320 main_cst_0
  let main_v7 : IVec S8x320 1 := cmpf .olt main_v5 main_v6
  let main_c_1 : IVec S_ 1 := constantI S_ 1 1#1
  let main_v8 : IVec S_ 1 := (fun x v => Host.reduce IntOp.andi x v reducesTo_S8x320_S_d0_1 h_S_) main_v7 main_c_1
  let main_v9 : IVec S_ 1 := andi main_v4 main_v8
  main_v9
-- ==== Kernel.lean ====
abbrev S16x2048x1536 : Shape := ⟨3, ![16, 2048, 1536]⟩
abbrev S8x320 : Shape := ⟨2, ![8, 320]⟩
abbrev S32768x1536 : Shape := ⟨2, ![32768, 1536]⟩
abbrev S1023 : Shape := ⟨1, ![1023]⟩
abbrev S_ : Shape := ⟨0, ![]⟩
abbrev S1023x1 : Shape := ⟨2, ![1023, 1]⟩
abbrev S8x1023 : Shape := ⟨2, ![8, 1023]⟩
abbrev S1x8x1x1023 : Shape := ⟨4, ![1, 8, 1, 1023]⟩
abbrev S1x8x256x1023 : Shape := ⟨4, ![1, 8, 256, 1023]⟩
abbrev S8x261888 : Shape := ⟨2, ![8, 261888]⟩
abbrev S8x261632 : Shape := ⟨2, ![8, 261632]⟩
abbrev S8x256x1022 : Shape := ⟨3, ![8, 256, 1022]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S32768x512 : Shape := ⟨2, ![32768, 512]⟩
abbrev S256x512 : Shape := ⟨2, ![256, 512]⟩
abbrev S256x128 : Shape := ⟨2, ![256, 128]⟩
abbrev S256x256 : Shape := ⟨2, ![256, 256]⟩
abbrev S1x256x256 : Shape := ⟨3, ![1, 256, 256]⟩
abbrev S512x256 : Shape := ⟨2, ![512, 256]⟩

abbrev nBuf : Space → Nat
  | .hbm => 98
  | .vmem => 17
  | .smem => 0
  | _ => 0

abbrev bufTy : (tb : Table) → Fin (tcTables nBuf tb) → BufTy
  | .hbm, ⟨0, _⟩ => ⟨S16x2048x1536, .f32⟩
  | .hbm, ⟨1, _⟩ => ⟨S8x320, .f32⟩
  | .hbm, ⟨2, _⟩ => ⟨S32768x1536, .f32⟩
  | .hbm, ⟨3, _⟩ => ⟨S32768x1536, .bf16⟩
  | .hbm, ⟨4, _⟩ => ⟨S1023, .i32⟩
  | .hbm, ⟨5, _⟩ => ⟨S_, .i32⟩
  | .hbm, ⟨6, _⟩ => ⟨S1023, .i32⟩
  | .hbm, ⟨7, _⟩ => ⟨S1023, .i1⟩
  | .hbm, ⟨8, _⟩ => ⟨S_, .i32⟩
  | .hbm, ⟨9, _⟩ => ⟨S1023, .i32⟩
  | .hbm, ⟨10, _⟩ => ⟨S1023, .i32⟩
  | .hbm, ⟨11, _⟩ => ⟨S1023, .i32⟩
  | .hbm, ⟨12, _⟩ => ⟨S_, .i32⟩
  | .hbm, ⟨13, _⟩ => ⟨S1023, .i32⟩
  | .hbm, ⟨14, _⟩ => ⟨S1023, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S_, .i32⟩
  | .hbm, ⟨21, _⟩ => ⟨S1023, .i32⟩
  | .hbm, ⟨22, _⟩ => ⟨S1023, .i32⟩
  | .hbm, ⟨23, _⟩ => ⟨S_, .i32⟩
  | .hbm, ⟨24, _⟩ => ⟨S1023, .i32⟩
  | .hbm, ⟨25, _⟩ => ⟨S1023, .i32⟩
  | .hbm, ⟨26, _⟩ => ⟨S_, .i32⟩
  | .hbm, ⟨27, _⟩ => ⟨S1023, .i32⟩
  | .hbm, ⟨28, _⟩ => ⟨S1023, .i1⟩
  | .hbm, ⟨29, _⟩ => ⟨S_, .i32⟩
  | .hbm, ⟨30, _⟩ => ⟨S1023, .i32⟩
  | .hbm, ⟨31, _⟩ => ⟨S1023, .i32⟩
  | .hbm, ⟨32, _⟩ => ⟨S1023, .i32⟩
  | .hbm, ⟨33, _⟩ => ⟨S1023x1, .i32⟩
  | .hbm, ⟨34, _⟩ => ⟨S8x1023, .f32⟩
  | .hbm, ⟨35, _⟩ => ⟨S1x8x1x1023, .f32⟩
  | .hbm, ⟨36, _⟩ => ⟨S1x8x256x1023, .f32⟩
  | .hbm, ⟨37, _⟩ => ⟨S8x261888, .f32⟩
  | .hbm, ⟨38, _⟩ => ⟨S8x261632, .f32⟩
  | .hbm, ⟨39, _⟩ => ⟨S8x256x1022, .f32⟩
  | .hbm, ⟨40, _⟩ => ⟨S8x256x768, .f32⟩
  | .hbm, ⟨41, _⟩ => ⟨S256, .i32⟩
  | .hbm, ⟨42, _⟩ => ⟨S256x1, .i32⟩
  | .hbm, ⟨43, _⟩ => ⟨S_, .i32⟩
  | .hbm, ⟨44, _⟩ => ⟨S_, .i32⟩
  | .hbm, ⟨45, _⟩ => ⟨S256x1, .i32⟩
  | .hbm, ⟨46, _⟩ => ⟨S256x1, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i1⟩
  | .hbm, ⟨51, _⟩ => ⟨S256x1, .i32⟩
  | .hbm, ⟨52, _⟩ => ⟨S256x1, .i32⟩
  | .hbm, ⟨53, _⟩ => ⟨S_, .i32⟩
  | .hbm, ⟨54, _⟩ => ⟨S256x1, .i32⟩
  | .hbm, ⟨55, _⟩ => ⟨S256x1, .i1⟩
  | .hbm, ⟨56, _⟩ => ⟨S256x1, .i1⟩
  | .hbm, ⟨57, _⟩ => ⟨S_, .i32⟩
  | .hbm, ⟨58, _⟩ => ⟨S256x1, .i32⟩
  | .hbm, ⟨59, _⟩ => ⟨S256x1, .i32⟩
  | .hbm, ⟨60, _⟩ => ⟨S256x1, .i32⟩
  | .hbm, ⟨61, _⟩ => ⟨S768, .i32⟩
  | .hbm, ⟨62, _⟩ => ⟨S1x768, .i32⟩
  | .hbm, ⟨63, _⟩ => ⟨S_, .i32⟩
  | .hbm, ⟨64, _⟩ => ⟨S_, .i32⟩
  | .hbm, ⟨65, _⟩ => ⟨S1x768, .i32⟩
  | .hbm, ⟨66, _⟩ => ⟨S1x768, .i32⟩
  | .hbm, ⟨67, _⟩ => ⟨S1x768, .i32⟩
  | .hbm, ⟨68, _⟩ => ⟨S_, .i32⟩
  | .hbm, ⟨69, _⟩ => ⟨S1x768, .i32⟩
  | .hbm, ⟨70, _⟩ => ⟨S1x768, .i1⟩
  | .hbm, ⟨71, _⟩ => ⟨S1x768, .i32⟩
  | .hbm, ⟨72, _⟩ => ⟨S1x768, .i32⟩
  | .hbm, ⟨73, _⟩ => ⟨S_, .i32⟩
  | .hbm, ⟨74, _⟩ => ⟨S1x768, .i32⟩
  | .hbm, ⟨75, _⟩ => ⟨S1x768, .i1⟩
  | .hbm, ⟨76, _⟩ => ⟨S1x768, .i1⟩
  | .hbm, ⟨77, _⟩ => ⟨S_, .i32⟩
  | .hbm, ⟨78, _⟩ => ⟨S1x768, .i32⟩
  | .hbm, ⟨79, _⟩ => ⟨S1x768, .i32⟩
  | .hbm, ⟨80, _⟩ => ⟨S1x768, .i32⟩
  | .hbm, ⟨81, _⟩ => ⟨S256x768, .i32⟩
  | .hbm, ⟨82, _⟩ => ⟨S256x768, .i32⟩
  | .hbm, ⟨83, _⟩ => ⟨S256x768, .i1⟩
  | .hbm, ⟨84, _⟩ => ⟨S_, .i32⟩
  | .hbm, ⟨85, _⟩ => ⟨S256x1, .i32⟩
  | .hbm, ⟨86, _⟩ => ⟨S256x1, .i32⟩
  | .hbm, ⟨87, _⟩ => ⟨S256x768, .i32⟩
  | .hbm, ⟨88, _⟩ => ⟨S256x768, .i32⟩
  | .hbm, ⟨89, _⟩ => ⟨S256x768, .i1⟩
  | .hbm, ⟨90, _⟩ => ⟨S256x768, .i1⟩
  | .hbm, ⟨91, _⟩ => ⟨S1x256x768, .i1⟩
  | .hbm, ⟨92, _⟩ => ⟨S_, .f32⟩
  | .hbm, ⟨93, _⟩ => ⟨S_, .f32⟩
  | .hbm, ⟨94, _⟩ => ⟨S8x256x768, .i1⟩
  | .hbm, ⟨95, _⟩ => ⟨S8x256x768, .f32⟩
  | .hbm, ⟨96, _⟩ => ⟨S8x256x768, .f32⟩
  | .hbm, ⟨97, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S256x512, .bf16⟩
  | .local _ .vmem, ⟨16, _⟩ => ⟨S256x512, .bf16⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_c_9 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v42 : Ref sig .tc := ⟨.hbm, 96, rfl⟩
abbrev main_v43 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c1_i32 : BitVec 32 := 1#32
  let c0_i32_0 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c2_i32_0 : BitVec 32 := 2#32
  let c0_i32_1 : BitVec 32 := 0#32
  ![v3.toNat, c2_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x1536 : Shape := ⟨3, ![16, 2048, 1536]⟩
abbrev S8x320 : Shape := ⟨2, ![8, 320]⟩
abbrev S16x2048x512 : Shape := ⟨3, ![16, 2048, 512]⟩
abbrev S16x2048x8x64 : Shape := ⟨4, ![16, 2048, 8, 64]⟩
abbrev S_ : Shape := ⟨0, ![]⟩
abbrev S16x2560x8x64 : Shape := ⟨4, ![16, 2560, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S16x32x64x8x64 : Shape := ⟨5, ![16, 32, 64, 8, 64]⟩
abbrev S32x16x64x8x64 : Shape := ⟨5, ![32, 16, 64, 8, 64]⟩
abbrev S32 : Shape := ⟨1, ![32]⟩
abbrev S32x1 : Shape := ⟨2, ![32, 1]⟩
abbrev S32x4 : Shape := ⟨2, ![32, 4]⟩
abbrev S32x16x576x8x64 : Shape := ⟨5, ![32, 16, 576, 8, 64]⟩
abbrev S32x16x8x64x576 : Shape := ⟨5, ![32, 16, 8, 64, 576]⟩
abbrev S1x8x64x576 : Shape := ⟨4, ![1, 8, 64, 576]⟩
abbrev S1x1x8x64x576 : Shape := ⟨5, ![1, 1, 8, 64, 576]⟩
abbrev S32x576 : Shape := ⟨2, ![32, 576]⟩
abbrev S16x8x64x576 : Shape := ⟨4, ![16, 8, 64, 576]⟩
abbrev S32x16x8x64 : Shape := ⟨4, ![32, 16, 8, 64]⟩
abbrev S32x16x8x64x1 : Shape := ⟨5, ![32, 16, 8, 64, 1]⟩
abbrev S32x16x8x64x64 : Shape := ⟨5, ![32, 16, 8, 64, 64]⟩
abbrev S32768x512 : Shape := ⟨2, ![32768, 512]⟩

abbrev nBuf : Space → Nat
  | .hbm => 130
  | .vmem => 0
  | .smem => 0
  | _ => 0

abbrev hbmTy0_0 (i : Nat) : BufTy := match i % 128 with
  | 0 => ⟨S16x2048x1536, .f32⟩
  | 1 => ⟨S8x320, .f32⟩
  | 2 => ⟨S16x2048x512, .f32⟩
  | 3 => ⟨S16x2048x512, .f32⟩
  | 4 => ⟨S16x2048x512, .f32⟩
  | 5 => ⟨S16x2048x8x64, .f32⟩
  | 6 => ⟨S16x2048x8x64, .f32⟩
  | 7 => ⟨S16x2048x8x64, .f32⟩
  | 8 => ⟨S_, .i32⟩
  | 9 => ⟨S_, .f32⟩
  | 10 => ⟨S16x2560x8x64, .f32⟩
  | 11 => ⟨S_, .i32⟩
  | 12 => ⟨S_, .f32⟩
  | 13 => ⟨S16x2560x8x64, .f32⟩
  | 14 => ⟨S64, .i32⟩
  | 15 => ⟨S64x1, .i32⟩
  | 16 => ⟨S576, .i32⟩
  | 17 => ⟨S_, .i32⟩
  | 18 => ⟨S64x1, .i32⟩
  | 19 => ⟨S64x1, .i32⟩
  | 20 => ⟨S1x576, .i32⟩
  | 21 => ⟨S64x576, .i32⟩
  | 22 => ⟨S64x576, .i32⟩
  | 23 => ⟨S64x576, .i32⟩
  | 24 => ⟨S_, .i32⟩
  | 25 => ⟨S_, .i32⟩
  | 26 => ⟨S_, .i32⟩
  | 27 => ⟨S64x576, .i32⟩
  | 28 => ⟨S64x576, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i1⟩
  | 38 => ⟨S_, .i32⟩
  | 39 => ⟨S64x576, .i32⟩
  | 40 => ⟨S64x576, .i32⟩
  | 41 => ⟨S64x576, .i32⟩
  | 42 => ⟨S64x576x1, .i32⟩
  | 43 => ⟨S8x64x576, .f32⟩
  | 44 => ⟨S16x32x64x8x64, .f32⟩
  | 45 => ⟨S32x16x64x8x64, .f32⟩
  | 46 => ⟨S32, .i32⟩
  | 47 => ⟨S_, .i32⟩
  | 48 => ⟨S32, .i32⟩
  | 49 => ⟨S32, .i32⟩
  | 50 => ⟨S_, .i32⟩
  | 51 => ⟨S32, .i32⟩
  | 52 => ⟨S32, .i1⟩
  | 53 => ⟨S_, .i32⟩
  | 54 => ⟨S32, .i32⟩
  | 55 => ⟨S32, .i32⟩
  | 56 => ⟨S32, .i32⟩
  | 57 => ⟨S_, .i32⟩
  | 58 => ⟨S32x1, .i32⟩
  | 59 => ⟨S32x1, .i32⟩
  | 60 => ⟨S_, .i32⟩
  | 61 => ⟨S32x1, .i32⟩
  | 62 => ⟨S_, .i32⟩
  | 63 => ⟨S32x1, .i32⟩
  | 64 => ⟨S32x4, .i32⟩
  | 65 => ⟨S32x16x576x8x64, .f32⟩
  | 66 => ⟨S_, .i32⟩
  | 67 => ⟨S32, .i32⟩
  | 68 => ⟨S32, .i32⟩
  | 69 => ⟨S_, .i32⟩
  | 70 => ⟨S32, .i32⟩
  | 71 => ⟨S32, .i1⟩
  | 72 => ⟨S_, .i32⟩
  | 73 => ⟨S32, .i32⟩
  | 74 => ⟨S32, .i32⟩
  | 75 => ⟨S32, .i32⟩
  | 76 => ⟨S_, .i32⟩
  | 77 => ⟨S32x1, .i32⟩
  | 78 => ⟨S32x1, .i32⟩
  | 79 => ⟨S_, .i32⟩
  | 80 => ⟨S32x1, .i32⟩
  | 81 => ⟨S_, .i32⟩
  | 82 => ⟨S32x1, .i32⟩
  | 83 => ⟨S32x4, .i32⟩
  | 84 => ⟨S32x16x576x8x64, .f32⟩
  | 85 => ⟨S32x16x8x64x576, .f32⟩
  | 86 => ⟨S_, .f32⟩
  | 87 => ⟨S32x16x8x64x576, .f32⟩
  | 88 => ⟨S32x16x8x64x576, .f32⟩
  | 89 => ⟨S1x8x64x576, .f32⟩
  | 90 => ⟨S1x1x8x64x576, .f32⟩
  | 91 => ⟨S32x16x8x64x576, .f32⟩
  | 92 => ⟨S32x16x8x64x576, .f32⟩
  | 93 => ⟨S_, .i32⟩
  | 94 => ⟨S32, .i32⟩
  | 95 => ⟨S32, .i32⟩
  | 96 => ⟨S_, .i32⟩
  | 97 => ⟨S32, .i32⟩
  | 98 => ⟨S32, .i32⟩
  | 99 => ⟨S1x576, .i32⟩
  | 100 => ⟨S32x1, .i32⟩
  | 101 => ⟨S32x576, .i32⟩
  | 102 => ⟨S32x576, .i32⟩
  | 103 => ⟨S32x576, .i1⟩
  | 104 => ⟨S_, .f32⟩
  | 105 => ⟨S_, .f32⟩
  | 106 => ⟨S32x16x8x64x576, .i1⟩
  | 107 => ⟨S16x8x64x576, .f32⟩
  | 108 => ⟨S32x16x8x64x576, .f32⟩
  | 109 => ⟨S32x16x8x64x576, .f32⟩
  | 110 => ⟨S_, .f32⟩
  | 111 => ⟨S32x16x8x64, .f32⟩
  | 112 => ⟨S_, .f32⟩
  | 113 => ⟨S32x16x8x64, .f32⟩
  | 114 => ⟨S32x16x8x64, .f32⟩
  | 115 => ⟨S32x16x8x64x1, .f32⟩
  | 116 => ⟨S32x16x8x64x576, .f32⟩
  | 117 => ⟨S32x16x8x64x576, .f32⟩
  | 118 => ⟨S32x16x8x64x576, .f32⟩
  | 119 => ⟨S_, .f32⟩
  | 120 => ⟨S32x16x8x64, .f32⟩
  | 121 => ⟨S32x16x8x64x1, .f32⟩
  | 122 => ⟨S32x16x8x64x576, .f32⟩
  | 123 => ⟨S32x16x8x64x576, .f32⟩
  | 124 => ⟨S32x16x8x64x64, .f32⟩
  | 125 => ⟨S32x16x64x8x64, .f32⟩
  | 126 => ⟨S16x32x64x8x64, .f32⟩
  | 127 => ⟨S16x2048x512, .f32⟩
  | _ => ⟨S16x2048x1536, .f32⟩

abbrev hbmTy0_1 (i : Nat) : BufTy := match i % 128 with
  | 0 => ⟨S32768x512, .f32⟩
  | 1 => ⟨S32768x512, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_c_3 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_13 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_v46 : Ref sig .tc := ⟨.hbm, 71, rfl⟩
abbrev main_c_15 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_v50 : Ref sig .tc := ⟨.hbm, 77, rfl⟩
abbrev main_v51 : Ref sig .tc := ⟨.hbm, 78, rfl⟩
abbrev main_c_17 : Ref sig .tc := ⟨.hbm, 79, rfl⟩
abbrev main_v52 : Ref sig .tc := ⟨.hbm, 80, rfl⟩
abbrev main_c_18 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_19 : Ref sig .tc := ⟨.hbm, 93, rfl⟩
abbrev main_v63 : Ref sig .tc := ⟨.hbm, 94, rfl⟩
abbrev main_v64 : Ref sig .tc := ⟨.hbm, 95, rfl⟩
abbrev main_c_20 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_21 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_v72 : Ref sig .tc := ⟨.hbm, 109, rfl⟩
abbrev main_cst_22 : Ref sig .tc := ⟨.hbm, 110, rfl⟩
abbrev main_v73 : Ref sig .tc := ⟨.hbm, 111, rfl⟩
abbrev main_cst_23 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_24 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== Experts.lean ====
abbrev S81920x1024 : Shape := ⟨2, ![81920, 1024]⟩
abbrev S2x4x8x1024x256 : Shape := ⟨5, ![2, 4, 8, 1024, 256]⟩
abbrev S2x4x8x256x1024 : Shape := ⟨5, ![2, 4, 8, 256, 1024]⟩
abbrev S32 : Shape := ⟨1, ![32]⟩
abbrev S64x1024x256 : Shape := ⟨3, ![64, 1024, 256]⟩
abbrev S64x256x1024 : Shape := ⟨3, ![64, 256, 1024]⟩
abbrev S_ : Shape := ⟨0, ![]⟩
abbrev S160 : Shape := ⟨1, ![160]⟩
abbrev S1x160 : Shape := ⟨2, ![1, 160]⟩
abbrev S32x1 : Shape := ⟨2, ![32, 1]⟩
abbrev S32x160 : Shape := ⟨2, ![32, 160]⟩
abbrev S1 : Shape := ⟨1, ![1]⟩
abbrev S159 : Shape := ⟨1, ![159]⟩
abbrev S655360x128 : Shape := ⟨2, ![655360, 128]⟩
abbrev S4096x128 : Shape := ⟨2, ![4096, 128]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S512x128 : Shape := ⟨2, ![512, 128]⟩
abbrev S512x1024 : Shape := ⟨2, ![512, 1024]⟩
abbrev S512x256 : Shape := ⟨2, ![512, 256]⟩

abbrev nBuf : Space → Nat
  | .hbm => 67
  | .vmem => 13
  | .smem => 3
  | _ => 0

abbrev bufTy : (tb : Table) → Fin (tcTables nBuf tb) → BufTy
  | .hbm, ⟨0, _⟩ => ⟨S81920x1024, .f32⟩
  | .hbm, ⟨1, _⟩ => ⟨S2x4x8x1024x256, .f32⟩
  | .hbm, ⟨2, _⟩ => ⟨S2x4x8x1024x256, .f32⟩
  | .hbm, ⟨3, _⟩ => ⟨S2x4x8x256x1024, .f32⟩
  | .hbm, ⟨4, _⟩ => ⟨S32, .i32⟩
  | .hbm, ⟨5, _⟩ => ⟨S64x1024x256, .f32⟩
  | .hbm, ⟨6, _⟩ => ⟨S64x1024x256, .f32⟩
  | .hbm, ⟨7, _⟩ => ⟨S64x256x1024, .f32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S160, .i32⟩
  | .hbm, ⟨39, _⟩ => ⟨S_, .i32⟩
  | .hbm, ⟨40, _⟩ => ⟨S160, .i32⟩
  | .hbm, ⟨41, _⟩ => ⟨S160, .i32⟩
  | .hbm, ⟨42, _⟩ => ⟨S1x160, .i32⟩
  | .hbm, ⟨43, _⟩ => ⟨S32x1, .i32⟩
  | .hbm, ⟨44, _⟩ => ⟨S32x160, .i32⟩
  | .hbm, ⟨45, _⟩ => ⟨S32x160, .i32⟩
  | .hbm, ⟨46, _⟩ => ⟨S32x160, .i1⟩
  | .hbm, ⟨47, _⟩ => ⟨S32x160, .i32⟩
  | .hbm, ⟨48, _⟩ => ⟨S_, .i32⟩
  | .hbm, ⟨49, _⟩ => ⟨S160, .i32⟩
  | .hbm, ⟨50, _⟩ => ⟨S_, .i32⟩
  | .hbm, ⟨51, _⟩ => ⟨S160, .i32⟩
  | .hbm, ⟨52, _⟩ => ⟨S160, .i32⟩
  | .hbm, ⟨53, _⟩ => ⟨S1, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S_, .i32⟩
  | .hbm, ⟨58, _⟩ => ⟨S1, .i32⟩
  | .hbm, ⟨59, _⟩ => ⟨S159, .i32⟩
  | .hbm, ⟨60, _⟩ => ⟨S159, .i32⟩
  | .hbm, ⟨61, _⟩ => ⟨S159, .i1⟩
  | .hbm, ⟨62, _⟩ => ⟨S159, .i32⟩
  | .hbm, ⟨63, _⟩ => ⟨S655360x128, .f32⟩
  | .hbm, ⟨64, _⟩ => ⟨S_, .i32⟩
  | .hbm, ⟨65, _⟩ => ⟨S160, .i32⟩
  | .hbm, ⟨66, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S4096x128, .f32⟩
  | .local _ .vmem, ⟨9, _⟩ => ⟨S4096x128, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S160, .i32⟩
  | .local _ .smem, ⟨1, _⟩ => ⟨S160, .i32⟩
  | .local _ .smem, ⟨2, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v37 : Ref sig .tc := ⟨.hbm, 66, rfl⟩
abbrev main_v36 : Ref sig .tc := ⟨.smem, 0, rfl⟩
abbrev main_v27 : Ref sig .tc := ⟨.smem, 1, rfl⟩
abbrev main_v33 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_v36.idx, main_v27.idx, main_v33.idx], fun | 0 => main_v36.names | 1 => main_v27.names | 2 => main_v33.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v10 : Index := Scalar.indexCast arg0
  ![v10.toNat]
def k0_cond2 (v6 : BitVec 32) : BitVec 1 :=
  let c0_i32_1 : BitVec 32 := 0#32
  let v7 : BitVec 1 := Scalar.cmpi .sgt v6 c0_i32_1
  let v8 : BitVec 32 := Scalar.extui v7
  let c0_i32_2 : BitVec 32 := 0#32
  let v9 : BitVec 1 := Scalar.cmpi .ne v8 c0_i32_2
  v9

def k0_cond3 (v11 : BitVec 32) : BitVec 1 :=
  let c0_i32_3 : BitVec 32 := 0#32
  let v12 : BitVec 1 := Scalar.cmpi .eq v11 c0_i32_3
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S81920x1024 : Shape := ⟨2, ![81920, 1024]⟩
abbrev S2x4x8x1024x256 : Shape := ⟨5, ![2, 4, 8, 1024, 256]⟩
abbrev S2x4x8x256x1024 : Shape := ⟨5, ![2, 4, 8, 256, 1024]⟩
abbrev S32 : Shape := ⟨1, ![32]⟩
abbrev S1x4x8x1024x256 : Shape := ⟨5, ![1, 4, 8, 1024, 256]⟩
abbrev S4x8x1024x256 : Shape := ⟨4, ![4, 8, 1024, 256]⟩
abbrev S1x4x8x256x1024 : Shape := ⟨5, ![1, 4, 8, 256, 1024]⟩
abbrev S4x8x256x1024 : Shape := ⟨4, ![4, 8, 256, 1024]⟩
abbrev S_ : Shape := ⟨0, ![]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S1 : Shape := ⟨1, ![1]⟩
abbrev S81920x4x8 : Shape := ⟨3, ![81920, 4, 8]⟩
abbrev S1x8x1024x256 : Shape := ⟨4, ![1, 8, 1024, 256]⟩
abbrev S8x1024x256 : Shape := ⟨3, ![8, 1024, 256]⟩
abbrev S81920x8x256 : Shape := ⟨3, ![81920, 8, 256]⟩
abbrev S81920x1x8 : Shape := ⟨3, ![81920, 1, 8]⟩
abbrev S81920x8 : Shape := ⟨2, ![81920, 8]⟩
abbrev S81920x8x1 : Shape := ⟨3, ![81920, 8, 1]⟩
abbrev S1x8x256x1024 : Shape := ⟨4, ![1, 8, 256, 1024]⟩
abbrev S8x256x1024 : Shape := ⟨3, ![8, 256, 1024]⟩
abbrev S655360x128 : Shape := ⟨2, ![655360, 128]⟩

abbrev nBuf : Space → Nat
  | .hbm => 168
  | .vmem => 0
  | .smem => 0
  | _ => 0

abbrev hbmTy0_0 (i : Nat) : BufTy := match i % 128 with
  | 0 => ⟨S81920x1024, .f32⟩
  | 1 => ⟨S2x4x8x1024x256, .f32⟩
  | 2 => ⟨S2x4x8x1024x256, .f32⟩
  | 3 => ⟨S2x4x8x256x1024, .f32⟩
  | 4 => ⟨S32, .i32⟩
  | 5 => ⟨S1x4x8x1024x256, .f32⟩
  | 6 => ⟨S4x8x1024x256, .f32⟩
  | 7 => ⟨S1x4x8x1024x256, .f32⟩
  | 8 => ⟨S4x8x1024x256, .f32⟩
  | 9 => ⟨S1x4x8x256x1024, .f32⟩
  | 10 => ⟨S4x8x256x1024, .f32⟩
  | 11 => ⟨S_, .i32⟩
  | 12 => ⟨S32, .i32⟩
  | 13 => ⟨S32, .i32⟩
  | 14 => ⟨S_, .i32⟩
  | 15 => ⟨S32, .i32⟩
  | 16 => ⟨S32, .i32⟩
  | 17 => ⟨S_, .i32⟩
  | 18 => ⟨S_, .i32⟩
  | 19 => ⟨S32, .i32⟩
  | 20 => ⟨S32, .i32⟩
  | 21 => ⟨S32, .i32⟩
  | 22 => ⟨S_, .i32⟩
  | 23 => ⟨S32, .i32⟩
  | 24 => ⟨S32, .i1⟩
  | 25 => ⟨S32, .i32⟩
  | 26 => ⟨S32, .i32⟩
  | 27 => ⟨S_, .i32⟩
  | 28 => ⟨S32, .i32⟩
  | 29 => ⟨S32, .i1⟩
  | 30 => ⟨S32, .i1⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i32⟩
  | 38 => ⟨S_, .i32⟩
  | 39 => ⟨S_, .i32⟩
  | 40 => ⟨S32, .i32⟩
  | 41 => ⟨S81920, .i32⟩
  | 42 => ⟨S81920x1, .i32⟩
  | 43 => ⟨S1x32, .i32⟩
  | 44 => ⟨S81920x32, .i32⟩
  | 45 => ⟨S81920x32, .i32⟩
  | 46 => ⟨S81920x32, .i1⟩
  | 47 => ⟨S81920x32, .i32⟩
  | 48 => ⟨S_, .i32⟩
  | 49 => ⟨S81920, .i32⟩
  | 50 => ⟨S81920x1, .i32⟩
  | 51 => ⟨S1x32, .i32⟩
  | 52 => ⟨S81920x32, .i32⟩
  | 53 => ⟨S81920x32, .i32⟩
  | 54 => ⟨S81920x32, .i1⟩
  | 55 => ⟨S81920x32, .f32⟩
  | 56 => ⟨S1, .i32⟩
  | 57 => ⟨S_, .i32⟩
  | 58 => ⟨S81920, .i32⟩
  | 59 => ⟨S81920, .i1⟩
  | 60 => ⟨S81920, .f32⟩
  | 61 => ⟨S81920x1, .f32⟩
  | 62 => ⟨S81920x32, .f32⟩
  | 63 => ⟨S81920x32, .f32⟩
  | 64 => ⟨S81920x4x8, .f32⟩
  | 65 => ⟨S_, .f32⟩
  | 66 => ⟨S81920x1024, .f32⟩
  | 67 => ⟨S1x8x1024x256, .f32⟩
  | 68 => ⟨S8x1024x256, .f32⟩
  | 69 => ⟨S81920x8x256, .f32⟩
  | 70 => ⟨S1x8x1024x256, .f32⟩
  | 71 => ⟨S8x1024x256, .f32⟩
  | 72 => ⟨S81920x8x256, .f32⟩
  | 73 => ⟨S81920x8x256, .f32⟩
  | 74 => ⟨S81920x8x256, .f32⟩
  | 75 => ⟨S_, .f32⟩
  | 76 => ⟨S81920x8x256, .f32⟩
  | 77 => ⟨S81920x8x256, .f32⟩
  | 78 => ⟨S_, .f32⟩
  | 79 => ⟨S81920x8x256, .f32⟩
  | 80 => ⟨S81920x8x256, .f32⟩
  | 81 => ⟨S81920x8x256, .f32⟩
  | 82 => ⟨S81920x8x256, .f32⟩
  | 83 => ⟨S81920x1x8, .f32⟩
  | 84 => ⟨S81920x8, .f32⟩
  | 85 => ⟨S81920x8x1, .f32⟩
  | 86 => ⟨S81920x8x256, .f32⟩
  | 87 => ⟨S81920x8x256, .f32⟩
  | 88 => ⟨S1x8x256x1024, .f32⟩
  | 89 => ⟨S8x256x1024, .f32⟩
  | 90 => ⟨S81920x1024, .f32⟩
  | 91 => ⟨S81920x1024, .f32⟩
  | 92 => ⟨S1x8x1024x256, .f32⟩
  | 93 => ⟨S8x1024x256, .f32⟩
  | 94 => ⟨S81920x8x256, .f32⟩
  | 95 => ⟨S1x8x1024x256, .f32⟩
  | 96 => ⟨S8x1024x256, .f32⟩
  | 97 => ⟨S81920x8x256, .f32⟩
  | 98 => ⟨S81920x8x256, .f32⟩
  | 99 => ⟨S81920x8x256, .f32⟩
  | 100 => ⟨S_, .f32⟩
  | 101 => ⟨S81920x8x256, .f32⟩
  | 102 => ⟨S81920x8x256, .f32⟩
  | 103 => ⟨S_, .f32⟩
  | 104 => ⟨S81920x8x256, .f32⟩
  | 105 => ⟨S81920x8x256, .f32⟩
  | 106 => ⟨S81920x8x256, .f32⟩
  | 107 => ⟨S81920x8x256, .f32⟩
  | 108 => ⟨S81920x1x8, .f32⟩
  | 109 => ⟨S81920x8, .f32⟩
  | 110 => ⟨S81920x8x1, .f32⟩
  | 111 => ⟨S81920x8x256, .f32⟩
  | 112 => ⟨S81920x8x256, .f32⟩
  | 113 => ⟨S1x8x256x1024, .f32⟩
  | 114 => ⟨S8x256x1024, .f32⟩
  | 115 => ⟨S81920x1024, .f32⟩
  | 116 => ⟨S81920x1024, .f32⟩
  | 117 => ⟨S1x8x1024x256, .f32⟩
  | 118 => ⟨S8x1024x256, .f32⟩
  | 119 => ⟨S81920x8x256, .f32⟩
  | 120 => ⟨S1x8x1024x256, .f32⟩
  | 121 => ⟨S8x1024x256, .f32⟩
  | 122 => ⟨S81920x8x256, .f32⟩
  | 123 => ⟨S81920x8x256, .f32⟩
  | 124 => ⟨S81920x8x256, .f32⟩
  | 125 => ⟨S_, .f32⟩
  | 126 => ⟨S81920x8x256, .f32⟩
  | 127 => ⟨S81920x8x256, .f32⟩
  | _ => ⟨S81920x1024, .f32⟩

abbrev hbmTy0_1 (i : Nat) : BufTy := match i % 128 with
  | 0 => ⟨S_, .f32⟩
  | 1 => ⟨S81920x8x256, .f32⟩
  | 2 => ⟨S81920x8x256, .f32⟩
  | 3 => ⟨S81920x8x256, .f32⟩
  | 4 => ⟨S81920x8x256, .f32⟩
  | 5 => ⟨S81920x1x8, .f32⟩
  | 6 => ⟨S81920x8, .f32⟩
  | 7 => ⟨S81920x8x1, .f32⟩
  | 8 => ⟨S81920x8x256, .f32⟩
  | 9 => ⟨S81920x8x256, .f32⟩
  | 10 => ⟨S1x8x256x1024, .f32⟩
  | 11 => ⟨S8x256x1024, .f32⟩
  | 12 => ⟨S81920x1024, .f32⟩
  | 13 => ⟨S81920x1024, .f32⟩
  | 14 => ⟨S1x8x1024x256, .f32⟩
  | 15 => ⟨S8x1024x256, .f32⟩
  | 16 => ⟨S81920x8x256, .f32⟩
  | 17 => ⟨S1x8x1024x256, .f32⟩
  | 18 => ⟨S8x1024x256, .f32⟩
  | 19 => ⟨S81920x8x256, .f32⟩
  | 20 => ⟨S81920x8x256, .f32⟩
  | 21 => ⟨S81920x8x256, .f32⟩
  | 22 => ⟨S_, .f32⟩
  | 23 => ⟨S81920x8x256, .f32⟩
  | 24 => ⟨S81920x8x256, .f32⟩
  | 25 => ⟨S_, .f32⟩
  | 26 => ⟨S81920x8x256, .f32⟩
  | 27 => ⟨S81920x8x256, .f32⟩
  | 28 => ⟨S81920x8x256, .f32⟩
  | 29 => ⟨S81920x8x256, .f32⟩
  | 30 => ⟨S81920x1x8, .f32⟩
  | 31 => ⟨S81920x8, .f32⟩
  | 32 => ⟨S81920x8x1, .f32⟩
  | 33 => ⟨S81920x8x256, .f32⟩
  | 34 => ⟨S81920x8x256, .f32⟩
  | 35 => ⟨S1x8x256x1024, .f32⟩
  | 36 => ⟨S8x256x1024, .f32⟩
  | 37 => ⟨S81920x1024, .f32⟩
  | 38 => ⟨S81920x1024, .f32⟩
  | 39 => ⟨S655360x128, .f32⟩
  | _ => ⟨S81920x1024, .f32⟩

abbrev hbmTy (i : Nat) : BufTy := match i / 128 with
  | 0 => hbmTy0_0 i
  | 1 => hbmTy0_1 i
  | _ => ⟨S81920x1024, .f32⟩

abbrev bufTy : (tb : Table) → Fin (tcTables nBuf tb) → BufTy
  | .hbm, ⟨i, _⟩ => hbmTy i
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_call1_call0_c : Ref sig .tc := ⟨.hbm, 38, rfl⟩
abbrev main_call1_call0_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call5_v0 : Ref sig .tc := ⟨.hbm, 123, rfl⟩
abbrev main_call5_v1 : Ref sig .tc := ⟨.hbm, 124, rfl⟩
abbrev main_call5_cst : Ref sig .tc := ⟨.hbm, 125, rfl⟩
abbrev main_call5_v2 : Ref sig .tc := ⟨.hbm, 126, rfl⟩
abbrev main_call5_v3 : Ref sig .tc := ⟨.hbm, 127, rfl⟩
abbrev main_call5_cst_0 : Ref sig .tc := ⟨.hbm, 128, rfl⟩
abbrev main_call5_v4 : Ref sig .tc := ⟨.hbm, 129, rfl⟩
abbrev main_call5_v5 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩

abbrev nD : Nat := 1
abbrev τ : Topo := Topo.v7x

variable {F : FTy → Type} [FloatOps F]
-- ==== Projection.lean ====
abbrev S16x2048x1024 : Shape := ⟨3, ![16, 2048, 1024]⟩
abbrev S1024 : Shape := ⟨1, ![1024]⟩
abbrev S1024x3328 : Shape := ⟨2, ![1024, 3328]⟩
abbrev S32768x1024 : Shape := ⟨2, ![32768, 1024]⟩
abbrev S1024x1792 : Shape := ⟨2, ![1024, 1792]⟩
abbrev S1024x1536 : Shape := ⟨2, ![1024, 1536]⟩
abbrev S1x1024 : Shape := ⟨2, ![1, 1024]⟩
abbrev S32768x1792 : Shape := ⟨2, ![32768, 1792]⟩
abbrev S32768x1536 : Shape := ⟨2, ![32768, 1536]⟩
abbrev S512x1024 : Shape := ⟨2, ![512, 1024]⟩
abbrev S512x1792 : Shape := ⟨2, ![512, 1792]⟩
abbrev S512x1536 : Shape := ⟨2, ![512, 1536]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3328, .f32⟩
  | .hbm, ⟨3, _⟩ => ⟨S32768x1024, .f32⟩
  | .hbm, ⟨4, _⟩ => ⟨S1024x1792, .f32⟩
  | .hbm, ⟨5, _⟩ => ⟨S1024x1792, .bf16⟩
  | .hbm, ⟨6, _⟩ => ⟨S1024x1536, .f32⟩
  | .hbm, ⟨7, _⟩ => ⟨S1024x1536, .bf16⟩
  | .hbm, ⟨8, _⟩ => ⟨S1x1024, .f32⟩
  | .hbm, ⟨9, _⟩ => ⟨S32768x1792, .f32⟩
  | .hbm, ⟨10, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1536, .bf16⟩
  | .local _ .vmem, ⟨5, _⟩ => ⟨S512x1792, .f32⟩
  | .local _ .vmem, ⟨6, _⟩ => ⟨S512x1792, .f32⟩
  | .local _ .vmem, ⟨7, _⟩ => ⟨S512x1536, .bf16⟩
  | .local _ .vmem, ⟨8, _⟩ => ⟨S512x1536, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjectionReferenceIdeal.lean ====
abbrev S16x2048x1024 : Shape := ⟨3, ![16, 2048, 1024]⟩
abbrev S1024 : Shape := ⟨1, ![1024]⟩
abbrev S1024x3328 : Shape := ⟨2, ![1024, 3328]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3328 : Shape := ⟨3, ![16, 2048, 3328]⟩
abbrev S16x2048x1792 : Shape := ⟨3, ![16, 2048, 1792]⟩
abbrev S16x2048x1536 : Shape := ⟨3, ![16, 2048, 1536]⟩
abbrev S32768x1792 : Shape := ⟨2, ![32768, 1792]⟩
abbrev S32768x1536 : Shape := ⟨2, ![32768, 1536]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3328, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3328, .f32⟩
  | .hbm, ⟨20, _⟩ => ⟨S16x2048x1792, .f32⟩
  | .hbm, ⟨21, _⟩ => ⟨S16x2048x1536, .f32⟩
  | .hbm, ⟨22, _⟩ => ⟨S32768x1792, .f32⟩
  | .hbm, ⟨23, _⟩ => ⟨S32768x1536, .f32⟩
  | .hbm, ⟨24, _⟩ => ⟨S32768x1536, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Block.lean ====
/-
  ONE GRID POINT OF THE ATTENTION CALL, head pair by head pair. The body treats its eight heads in four pairs with
  one text: `pairVec` states that text once, `blockVec` sets the four results side by side, and `out_eq` says that
  the block written back is `blockVec` of the point's blocks.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.Attn

open Idealize.ShloMosaic Idealize.SL.Sem
open Cert.KernelIdeal Cert.KernelIdeal.Gen

/-- One head's biased scores against one block of 256 keys. -/
def scoreVec (q k : FVec Ideal S256x128 .bf16) (t : Vec Ideal S1x256x256 .f32) : FVec Ideal S256x256 .f32 :=
  addf (matmul dot_S256x128_S256x128_S256x256_1_1_0_0_n_n none q k (constant S256x256 .f32 0x00000000#32))
    (shapeCast S256x256 t shapeCasts_S1x256x256_S256x256)

/-- The same scores, all `−∞` where the block lies before the row's first. -/
def maskedVec (j thr : BitVec 32) (s : FVec Ideal S256x256 .f32) : FVec Ideal S256x256 .f32 :=
  Scalar.select (Scalar.cmpi .sge j thr) s (broadcast S256x256 (Named.named κ "mask" 0xF149F2CA#32 : Ideal .f32))

/-- The maximum of each row over the three blocks of keys. -/
def topVec (s0 s1 s2 : FVec Ideal S256x256 .f32) : FVec Ideal S256x1 .f32 :=
  shapeCast S256x1 (multiReduction .maximumf [1] S256 (maximumf (maximumf s0 s1) s2) 0xFF800000#32
    reduces_S256x256_S256 (.inl rfl) rfl) shapeCasts_S256_S256x1

/-- The exponentials of the scores less the row's maximum. -/
def expVec (s : FVec Ideal S256x256 .f32) (mx : FVec Ideal S256x1 .f32) : FVec Ideal S256x256 .bf16 :=
  truncf .bf16 (exp (subf s (broadcastTo S256x256 mx broadcasts_S256x1_S256x256))) bitsLt_bf16_f32

/-- The lanes of a pair's first head: the lanes below 64, kept; 0 elsewhere. -/
def evenVec (x : FVec Ideal S256x128 .bf16) : FVec Ideal S256x128 .bf16 :=
  select (k0_pay11 (F := Ideal)) x (broadcast S256x128 (Scalar.ofBits .bf16 0x0000#16 : Ideal .bf16))

/-- The lanes of a pair's second head. -/
def oddVec (x : FVec Ideal S256x128 .bf16) : FVec Ideal S256x128 .bf16 :=
  select (k0_pay11 (F := Ideal)) (broadcast S256x128 (Scalar.ofBits .bf16 0x0000#16 : Ideal .bf16)) x

/-- One block's values with the indicators of the pair's lanes beside them, the two heads one above the other. -/
def valueVec (v : FVec Ideal S256x128 .bf16) : FVec Ideal S512x256 .bf16 :=
  concatenate S512x256 0
    [⟨S256x256, concatenate S256x256 1 [⟨S256x128, evenVec v⟩, ⟨S256x128, k0_pay9 (F := Ideal)⟩]
        concatenates_S256x128_S256x128_S256x256_d1⟩,
     ⟨S256x256, concatenate S256x256 1 [⟨S256x128, oddVec v⟩, ⟨S256x128, k0_pay10 (F := Ideal)⟩]
        concatenates_S256x128_S256x128_S256x256_d1⟩]
    concatenates_S256x256_S256x256_S512x256_d0

/-- One block's share of the pair's weighted sums (left half) and sums of weights (right half). -/
def shareVec (ee eo : FVec Ideal S256x256 .bf16) (v : FVec Ideal S256x128 .bf16) : FVec Ideal S256x256 .f32 :=
  matmul dot_S256x512_S512x256_S256x256_1_0_0_1_n_n none
    (concatenate S256x512 1 [⟨S256x256, ee⟩, ⟨S256x256, eo⟩] concatenates_S256x256_S256x256_S256x512_d1)
    (valueVec v) (constant S256x256 .f32 0x00000000#32)

/-- The quotient of the two halves. -/
def quotVec (a : FVec Ideal S256x256 .f32) : FVec Ideal S256x128 .f32 :=
  divf (extractStridedSlice S256x128 ![0, 0] a slices_S256x256_o0_0_S256x128)
    (extractStridedSlice S256x128 ![0, 128] a slices_S256x256_o0_128_S256x128)

/-- Three blocks' shares of a pair, from the two heads' scores, added up and divided. -/
def mixVec (e0 o0 e1 o1 e2 o2 : FVec Ideal S256x256 .f32) (v0 v1 v2 : FVec Ideal S256x128 .bf16) :
    FVec Ideal S256x128 .f32 :=
  quotVec (addf (addf (addf (broadcast S256x256 (Scalar.ofBits .f32 0x00000000#32 : Ideal .f32))
      (shareVec (expVec e0 (topVec e0 e1 e2)) (expVec o0 (topVec o0 o1 o2)) v0))
      (shareVec (expVec e1 (topVec e0 e1 e2)) (expVec o1 (topVec o0 o1 o2)) v1))
      (shareVec (expVec e2 (topVec e0 e1 e2)) (expVec o2 (topVec o0 o1 o2)) v2))

/-- One pair of heads at one grid point: its lanes of the queries, of the three blocks of keys and of values, and
    the two heads' tables against the three blocks. -/
def pairVec (j : BitVec 32) (q k0 k1 k2 v0 v1 v2 : FVec Ideal S256x128 .bf16)
    (te0 to0 te1 to1 te2 to2 : Vec Ideal S1x256x256 .f32) : FVec Ideal S256x128 .f32 :=
  mixVec (maskedVec j 2#32 (scoreVec (evenVec q) k0 te0)) (maskedVec j 2#32 (scoreVec (oddVec q) k0 to0))
    (maskedVec j 1#32 (scoreVec (evenVec q) k1 te1)) (maskedVec j 1#32 (scoreVec (oddVec q) k1 to1))
    (scoreVec (evenVec q) k2 te2) (scoreVec (oddVec q) k2 to2) v0 v1 v2

/-- The queries, scaled. -/
def scaledVec (x : Vec Ideal S256x512 .bf16) : FVec Ideal S256x512 .bf16 :=
  mulf x (broadcast S256x512 (Scalar.ofBits .bf16 0x3E00#16 : Ideal .bf16))

/-- The four pairs' results side by side. -/
def blockVec (i : grid0.Coords) (q k0 k1 k2 v0 v1 v2 : Vec Ideal S256x512 .bf16) (t : Vec Ideal S8x256x768 .f32) :
    FVec Ideal S256x512 .bf16 :=
  truncf .bf16 (concatenate S256x512 1
    [⟨S256x128, pairVec (BitVec.ofNat 32 (i 1).val)
        (extractStridedSlice S256x128 ![0, 0] (scaledVec q) slices_S256x512_o0_0_S256x128)
        (extractStridedSlice S256x128 ![0, 0] k0 slices_S256x512_o0_0_S256x128)
        (extractStridedSlice S256x128 ![0, 0] k1 slices_S256x512_o0_0_S256x128)
        (extractStridedSlice S256x128 ![0, 0] k2 slices_S256x512_o0_0_S256x128)
        (extractStridedSlice S256x128 ![0, 0] v0 slices_S256x512_o0_0_S256x128)
        (extractStridedSlice S256x128 ![0, 0] v1 slices_S256x512_o0_0_S256x128)
        (extractStridedSlice S256x128 ![0, 0] v2 slices_S256x512_o0_0_S256x128)
        (View.ld t r0_1) (View.ld t r0_2) (View.ld t r0_3) (View.ld t r0_4) (View.ld t r0_5) (View.ld t r0_6)⟩,
     ⟨S256x128, pairVec (BitVec.ofNat 32 (i 1).val)
        (extractStridedSlice S256x128 ![0, 128] (scaledVec q) slices_S256x512_o0_128_S256x128)
        (extractStridedSlice S256x128 ![0, 128] k0 slices_S256x512_o0_128_S256x128)
        (extractStridedSlice S256x128 ![0, 128] k1 slices_S256x512_o0_128_S256x128)
        (extractStridedSlice S256x128 ![0, 128] k2 slices_S256x512_o0_128_S256x128)
        (extractStridedSlice S256x128 ![0, 128] v0 slices_S256x512_o0_128_S256x128)
        (extractStridedSlice S256x128 ![0, 128] v1 slices_S256x512_o0_128_S256x128)
        (extractStridedSlice S256x128 ![0, 128] v2 slices_S256x512_o0_128_S256x128)
        (View.ld t r0_7) (View.ld t r0_8) (View.ld t r0_9) (View.ld t r0_10) (View.ld t r0_11) (View.ld t r0_12)⟩,
     ⟨S256x128, pairVec (BitVec.ofNat 32 (i 1).val)
        (extractStridedSlice S256x128 ![0, 256] (scaledVec q) slices_S256x512_o0_256_S256x128)
        (extractStridedSlice S256x128 ![0, 256] k0 slices_S256x512_o0_256_S256x128)
        (extractStridedSlice S256x128 ![0, 256] k1 slices_S256x512_o0_256_S256x128)
        (extractStridedSlice S256x128 ![0, 256] k2 slices_S256x512_o0_256_S256x128)
        (extractStridedSlice S256x128 ![0, 256] v0 slices_S256x512_o0_256_S256x128)
        (extractStridedSlice S256x128 ![0, 256] v1 slices_S256x512_o0_256_S256x128)
        (extractStridedSlice S256x128 ![0, 256] v2 slices_S256x512_o0_256_S256x128)
        (View.ld t r0_13) (View.ld t r0_14) (View.ld t r0_15) (View.ld t r0_16) (View.ld t r0_17) (View.ld t r0_18)⟩,
     ⟨S256x128, pairVec (BitVec.ofNat 32 (i 1).val)
        (extractStridedSlice S256x128 ![0, 384] (scaledVec q) slices_S256x512_o0_384_S256x128)
        (extractStridedSlice S256x128 ![0, 384] k0 slices_S256x512_o0_384_S256x128)
        (extractStridedSlice S256x128 ![0, 384] k1 slices_S256x512_o0_384_S256x128)
        (extractStridedSlice S256x128 ![0, 384] k2 slices_S256x512_o0_384_S256x128)
        (extractStridedSlice S256x128 ![0, 384] v0 slices_S256x512_o0_384_S256x128)
        (extractStridedSlice S256x128 ![0, 384] v1 slices_S256x512_o0_384_S256x128)
        (extractStridedSlice S256x128 ![0, 384] v2 slices_S256x512_o0_384_S256x128)
        (View.ld t r0_19) (View.ld t r0_20) (View.ld t r0_21) (View.ld t r0_22) (View.ld t r0_23) (View.ld t r0_24)⟩]
    concatenates_S256x128_S256x128_S256x128_S256x128_S256x512_d1) bitsLt_bf16_f32

theorem hz2 : (![0, 0] : Fin 2 → Nat) = fun _ => 0 := funext fun a => by fin_cases a <;> rfl

/-- A reshape to the same shape changes nothing. -/
theorem cast_self (x : Vec Ideal S256x512 .bf16) : shapeCast S256x512 x shapeCasts_S256x512_S256x512 = x := by
  funext i; exact congrArg x (Shape.reshapeEquiv_self _ i)

theorem ld_whole (x : Vec Ideal S256x512 .bf16) : View.ld x r0_0 = x := View.ld_unit_zero hz2 _ x

theorem pay2_eq (x : Vec Ideal S256x512 .bf16) : k0_pay2 (View.ld x r0_0) = scaledVec x := by
  rw [ld_whole]; exact congrArg (fun y => mulf y _) (cast_self x)
theorem pay3_eq (x : Vec Ideal S256x512 .bf16) : k0_pay3 (View.ld x r0_0) = x := by
  rw [ld_whole]; exact cast_self x
theorem pay4_eq (x : Vec Ideal S256x512 .bf16) : k0_pay4 (View.ld x r0_0) = x := by
  rw [ld_whole]; exact cast_self x
theorem pay5_eq (x : Vec Ideal S256x512 .bf16) : k0_pay5 (View.ld x r0_0) = x := by
  rw [ld_whole]; exact cast_self x
theorem pay6_eq (x : Vec Ideal S256x512 .bf16) : k0_pay6 (View.ld x r0_0) = x := by
  rw [ld_whole]; exact cast_self x
theorem pay7_eq (x : Vec Ideal S256x512 .bf16) : k0_pay7 (View.ld x r0_0) = x := by
  rw [ld_whole]; exact cast_self x
theorem pay8_eq (x : Vec Ideal S256x512 .bf16) : k0_pay8 (View.ld x r0_0) = x := by
  rw [ld_whole]; exact cast_self x
theorem pay12_eq (x : Vec Ideal S256x512 .bf16) : k0_pay12 (View.ld x r0_0) =
    extractStridedSlice S256x128 ![0, 0] (scaledVec x) slices_S256x512_o0_0_S256x128 := by
  unfold k0_pay12; rw [pay2_eq]
theorem pay13_eq (x : Vec Ideal S256x512 .bf16) : k0_pay13 (View.ld x r0_0) =
    evenVec (extractStridedSlice S256x128 ![0, 0] (scaledVec x) slices_S256x512_o0_0_S256x128) := by
  unfold k0_pay13; rw [pay12_eq]; rfl

/-- What the body leaves in the output block: the four pairs' results of the point's input blocks. -/
theorem out_eq (i : grid0.Coords) (x0 x1 x2 x3 x4 x5 x6 : Vec Ideal S256x512 .bf16) (x7 : Vec Ideal S8x256x768 .f32) :
    out0_8 i x0 x1 x2 x3 x4 x5 x6 x7 = blockVec i x0 x1 x2 x3 x4 x5 x6 x7 := by
  unfold out0_8
  rw [View.canon_unit_zero hz2]
  simp only [k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, pay2_eq, pay3_eq, pay4_eq, pay5_eq, pay6_eq, pay7_eq, pay8_eq, pay12_eq, pay13_eq]
  rfl

end Cert.Attn
-- ==== Proof.RowMix.lean ====
/-
  A ROW'S WEIGHTED MEAN over three blocks of 256 keys, as the kernel forms it: one maximum over all the scores, the
  exponentials of the scores less it, the weighted sum of the values divided by the sum of the weights.
-/
module

public import Idealize.ShloMosaic.Lib.Pointwise
public import Idealize.ShloMosaic.Lib.IdealHost

@[expose] public section

noncomputable section

namespace Cert.Attn

open Idealize.ShloMosaic

/-- The greatest of the row's scores. -/
def rowMax (s : Fin 3 → Fin 256 → EReal) : EReal :=
  Finset.univ.fold max ⊥ fun n : Fin 256 => max (max (s 0 n) (s 1 n)) (s 2 n)

/-- The row's weighted mean. -/
def rowMix (s v : Fin 3 → Fin 256 → EReal) : EReal :=
  Ideal.div (∑ p, ∑ n, Ideal.exp (s p n - rowMax s) * v p n) (∑ p, ∑ n, Ideal.exp (s p n - rowMax s))

/-- A sum over 128 lanes of which only the first 64 count. -/
theorem sum_low (f g : Fin 128 → EReal) :
    (∑ l, (if l.val < 64 then f l else 0) * g l) = ∑ d : Fin 64, f ⟨d.val, by omega⟩ * g ⟨d.val, by omega⟩ := by
  rw [show (∑ l : Fin 128, (if l.val < 64 then f l else 0) * g l)
      = ∑ l : Fin (64 + 64), (if l.val < 64 then f l else 0) * g l from rfl, Fin.sum_univ_add]
  have h2 : (∑ d : Fin 64, (if (Fin.natAdd 64 d).val < 64 then f (Fin.natAdd 64 d) else 0) * g (Fin.natAdd 64 d)) = 0 :=
    Finset.sum_eq_zero fun d _ => by
      rw [if_neg (by simp), zero_mul]
  rw [h2, add_zero]
  refine Finset.sum_congr rfl fun d _ => ?_
  rw [if_pos (by simp)]; rfl

/-- A sum over 128 lanes of which only the last 64 count. -/
theorem sum_high (f g : Fin 128 → EReal) :
    (∑ l, (if l.val < 64 then 0 else f l) * g l) = ∑ d : Fin 64, f ⟨64 + d.val, by omega⟩ * g ⟨64 + d.val, by omega⟩ := by
  rw [show (∑ l : Fin 128, (if l.val < 64 then 0 else f l) * g l)
      = ∑ l : Fin (64 + 64), (if l.val < 64 then 0 else f l) * g l from rfl, Fin.sum_univ_add]
  have h2 : (∑ d : Fin 64, (if (Fin.castAdd 64 d).val < 64 then 0 else f (Fin.castAdd 64 d)) * g (Fin.castAdd 64 d)) = 0 :=
    Finset.sum_eq_zero fun d _ => by
      rw [if_pos (by simp), zero_mul]
  rw [h2, zero_add]
  refine Finset.sum_congr rfl fun d _ => ?_
  rw [if_neg (by simp)]; rfl

end Cert.Attn
-- ==== Proof.Pair.lean ====
/-
  A PAIR'S RESULT AT AN INDEX: a row's weighted mean of the values of its 768 keys, the weights the exponentials of
  the head's scores less their maximum.
-/
module

public import proofs.«01_k».proof.Proof.Block
public import proofs.«01_k».proof.Proof.RowMix

@[expose] public section

set_option maxRecDepth 16384

noncomputable section

namespace Cert.Attn

open Idealize.ShloMosaic Idealize.SL.Sem
open Cert.KernelIdeal Cert.KernelIdeal.Gen

theorem lane_lt : ∀ l : Fin 128, IntOp.cmpi CmpIPredicate.slt (BitVec.ofNat 32 l.val) 64#32 = if l.val < 64 then 1#1 else 0#1 := by
  decide +kernel

theorem lane_even (r : Fin 256) (l : Fin 128) : k0_pay9 (F := Ideal) (ix2 r l) = if l.val < 64 then (1 : EReal) else 0 := by
  pointwise [k0_pay9]
  rw [lane_lt]
  split <;> rfl

theorem lane_odd (r : Fin 256) (l : Fin 128) : k0_pay10 (F := Ideal) (ix2 r l) = if l.val < 64 then (0 : EReal) else 1 := by
  pointwise [k0_pay10]
  rw [lane_lt]
  split <;> rfl

theorem even_apply (x : FVec Ideal S256x128 .bf16) (r : Fin 256) (l : Fin 128) :
    evenVec x (ix2 r l) = if l.val < 64 then x (ix2 r l) else 0 := by
  pointwise [evenVec, k0_pay11]
  rw [lane_even]
  split <;> simp

theorem odd_apply (x : FVec Ideal S256x128 .bf16) (r : Fin 256) (l : Fin 128) :
    oddVec x (ix2 r l) = if l.val < 64 then 0 else x (ix2 r l) := by
  pointwise [oddVec, k0_pay11]
  rw [lane_even]
  split <;> simp

theorem score_apply (q k : FVec Ideal S256x128 .bf16) (t : Vec Ideal S1x256x256 .f32) (r n : Fin 256) :
    scoreVec q k t (ix2 r n) = (∑ l : Fin 128, q (ix2 r l) * k (ix2 n l)) + t (ix3 0 r n) := by
  pointwise [scoreVec]

theorem mask_eq : (Named.named κ "mask" 0xF149F2CA#32 : Ideal .f32) = (⊥ : EReal) := rfl

theorem sge_two : ∀ j : Fin 8, Scalar.cmpi .sge (BitVec.ofNat 32 j.val) 2#32 = if 2 ≤ j.val then 1#1 else 0#1 := by
  decide +kernel

theorem sge_one : ∀ j : Fin 8, Scalar.cmpi .sge (BitVec.ofNat 32 j.val) 1#32 = if 1 ≤ j.val then 1#1 else 0#1 := by
  decide +kernel

theorem masked_two (j : Fin 8) (s : FVec Ideal S256x256 .f32) (r n : Fin 256) :
    maskedVec (BitVec.ofNat 32 j.val) 2#32 s (ix2 r n) = if 2 ≤ j.val then s (ix2 r n) else (⊥ : EReal) := by
  pointwise [maskedVec]
  rw [sge_two, mask_eq]
  split <;> rfl

theorem masked_one (j : Fin 8) (s : FVec Ideal S256x256 .f32) (r n : Fin 256) :
    maskedVec (BitVec.ofNat 32 j.val) 1#32 s (ix2 r n) = if 1 ≤ j.val then s (ix2 r n) else (⊥ : EReal) := by
  pointwise [maskedVec]
  rw [sge_one, mask_eq]
  split <;> rfl

theorem ofBits_bot : Ideal.ofBits .f32 0xFF800000#32 = (⊥ : EReal) := by simp [Ideal.ofBits, Ideal.ieee]

theorem top_apply (s0 s1 s2 : FVec Ideal S256x256 .f32) (r : Fin 256) :
    topVec s0 s1 s2 (ix2 r 0)
      = rowMax ![fun n => s0 (ix2 r n), fun n => s1 (ix2 r n), fun n => s2 (ix2 r n)] := by
  pointwise [topVec]
  rw [show Ideal.ofBits .f32 4286578688#32 = (⊥ : EReal) from ofBits_bot]
  rfl

theorem exp_apply (s : FVec Ideal S256x256 .f32) (mx : FVec Ideal S256x1 .f32) (r n : Fin 256) :
    expVec s mx (ix2 r n) = Ideal.exp (s (ix2 r n) - mx (ix2 r 0)) := by
  pointwise [expVec]

/-- The left half of a share: the two heads' weighted sums, one of them over zeros. -/
theorem share_left (ee eo : FVec Ideal S256x256 .bf16) (v : FVec Ideal S256x128 .bf16) (r : Fin 256) (l : Fin 128) :
    shareVec ee eo v (ix2 r ⟨l.val, by omega⟩)
      = ∑ n : Fin 256, (if l.val < 64 then ee (ix2 r n) else eo (ix2 r n)) * v (ix2 n l) := by
  pointwise [shareVec, valueVec]
  simp only [l.isLt, dite_true, even_apply, odd_apply, Fin.eta]
  split <;> simp

/-- The right half of a share: the two heads' sums of weights, one of them over zeros. -/
theorem share_right (ee eo : FVec Ideal S256x256 .bf16) (v : FVec Ideal S256x128 .bf16) (r : Fin 256) (l : Fin 128) :
    shareVec ee eo v (ix2 r ⟨128 + l.val, by omega⟩)
      = ∑ n : Fin 256, (if l.val < 64 then ee (ix2 r n) else eo (ix2 r n)) := by
  pointwise [shareVec, valueVec]
  have h : ¬ (128 + l.val < 128) := by omega
  have h' : 128 + l.val - 128 = l.val := by omega
  simp only [h, dite_false, lane_even, lane_odd, h']
  split <;> simp

theorem quot_apply (a : FVec Ideal S256x256 .f32) (r : Fin 256) (l : Fin 128) :
    quotVec a (ix2 r l) = Ideal.div (a (ix2 r ⟨l.val, by omega⟩)) (a (ix2 r ⟨128 + l.val, by omega⟩)) := by
  pointwise [quotVec]

/-- The pair's result at lane `l` is the weighted mean under the scores of the head that the lane belongs to. -/
theorem mix_apply (e0 o0 e1 o1 e2 o2 : FVec Ideal S256x256 .f32) (v0 v1 v2 : FVec Ideal S256x128 .bf16)
    (r : Fin 256) (l : Fin 128) :
    mixVec e0 o0 e1 o1 e2 o2 v0 v1 v2 (ix2 r l)
      = rowMix (if l.val < 64 then ![fun n => e0 (ix2 r n), fun n => e1 (ix2 r n), fun n => e2 (ix2 r n)]
          else ![fun n => o0 (ix2 r n), fun n => o1 (ix2 r n), fun n => o2 (ix2 r n)])
          ![fun n => v0 (ix2 n l), fun n => v1 (ix2 n l), fun n => v2 (ix2 n l)] := by
  unfold mixVec
  rw [quot_apply]
  pointwise
  simp only [share_left, share_right, exp_apply, top_apply]
  split <;> simp [rowMix, Fin.sum_univ_three]

/-- One head's score of row `r` against key `n` of block `p` (the blocks in time order, the row's own the last). -/
def pairScore (j : Fin 8) (q : Fin 64 → EReal) (k : Fin 3 → Fin 256 → Fin 64 → EReal) (t : Fin 3 → Fin 256 → EReal)
    (p : Fin 3) (n : Fin 256) : EReal :=
  if 2 ≤ j.val + p.val then (∑ d, q d * k p n d) + t p n else ⊥

theorem pair_apply (j : Fin 8) (q k0 k1 k2 v0 v1 v2 : FVec Ideal S256x128 .bf16)
    (te0 to0 te1 to1 te2 to2 : Vec Ideal S1x256x256 .f32) (r : Fin 256) (l : Fin 128) :
    pairVec (BitVec.ofNat 32 j.val) q k0 k1 k2 v0 v1 v2 te0 to0 te1 to1 te2 to2 (ix2 r l)
      = rowMix (if l.val < 64 then
            pairScore j (fun d => q (ix2 r ⟨d.val, by omega⟩))
              ![fun n d => k0 (ix2 n ⟨d.val, by omega⟩), fun n d => k1 (ix2 n ⟨d.val, by omega⟩), fun n d => k2 (ix2 n ⟨d.val, by omega⟩)]
              ![fun n => te0 (ix3 0 r n), fun n => te1 (ix3 0 r n), fun n => te2 (ix3 0 r n)]
          else
            pairScore j (fun d => q (ix2 r ⟨64 + d.val, by omega⟩))
              ![fun n d => k0 (ix2 n ⟨64 + d.val, by omega⟩), fun n d => k1 (ix2 n ⟨64 + d.val, by omega⟩), fun n d => k2 (ix2 n ⟨64 + d.val, by omega⟩)]
              ![fun n => to0 (ix3 0 r n), fun n => to1 (ix3 0 r n), fun n => to2 (ix3 0 r n)])
          ![fun n => v0 (ix2 n l), fun n => v1 (ix2 n l), fun n => v2 (ix2 n l)] := by
  unfold pairVec
  rw [mix_apply]
  simp only [masked_two, masked_one, score_apply, even_apply, odd_apply, sum_low, sum_high]
  congr 1
  split
  · funext p n
    fin_cases p <;> simp [pairScore]
  · funext p n
    fin_cases p <;> simp [pairScore]

end Cert.Attn
-- ==== Proof.BlockAt.lean ====
/-
  THE BLOCK WRITTEN BACK, AT AN INDEX: column `64 h + d` of row `r` is the row's weighted mean under head `h`.
-/
module

public import proofs.«01_k».proof.Proof.Pair

@[expose] public section

set_option maxRecDepth 16384

noncomputable section

namespace Cert.Attn

open Idealize.ShloMosaic Idealize.SL.Sem
open Cert.KernelIdeal Cert.KernelIdeal.Gen

theorem eighth : Ideal.ofBits .bf16 0x3E00#16 = (((1 : ℝ) / 8 : ℝ) : EReal) := by
  simp [Ideal.ofBits, Ideal.ieee, ← EReal.coe_mul]; norm_num

/-- The scale of the scores. -/
@[irreducible] def scale : EReal := (((1 : ℝ) / 8 : ℝ) : EReal)

theorem scaled_apply (x : Vec Ideal S256x512 .bf16) (r : Fin 256) (c : Fin 512) :
    scaledVec x (ix2 r c) = x (ix2 r c) * scale := by
  pointwise [scaledVec]
  rw [scale, ← eighth]

/-- Column `64 h + d`. -/
abbrev col (h : Fin 8) (d : Fin 64) : Fin 512 := ⟨64 * h.val + d.val, by omega⟩

/-- Key `256 p + n` of a row's window of 768. -/
abbrev key (p : Fin 3) (n : Fin 256) : Fin 768 := ⟨256 * p.val + n.val, by omega⟩

theorem slice_col {o : Nat} (hs : S256x512.Slices ![0, o] S256x128) (x : Vec Ideal S256x512 .bf16) (n : Fin 256)
    (l : Fin 128) (c : Fin 512) (hc : c.val = o + l.val) :
    extractStridedSlice S256x128 ![0, o] x hs (ix2 n l) = x (ix2 n c) := by
  pointwise
  exact congrArg (fun c => x (ix2 n c)) (Fin.ext hc.symm)

theorem ld_key {a b : Nat} (inb : ∀ k, ![a, 0, b] k + S1x256x256.size k ≤ S8x256x768.size k)
    (t : Vec Ideal S8x256x768 .f32) (r n : Fin 256) (h : Fin 8) (c : Fin 768) (hh : h.val = a) (hc : c.val = b + n.val) :
    View.ld t (Rect.unit (s := S8x256x768) ![a, 0, b] S1x256x256.size inb) (ix3 0 r n) = t (ix3 h r c) := by
  refine congrArg t (funext fun k => Fin.ext ?_)
  match k with
  | ⟨0, _⟩ => show a + 0 = h.val; omega
  | ⟨1, _⟩ => show 0 + 1 * r.val = r.val; omega
  | ⟨2, _⟩ => show b + 1 * n.val = c.val; omega

/-- A row's scores and values under head `h`, from the whole blocks. -/
def headMix (j : Fin 8) (q k0 k1 k2 v0 v1 v2 : Vec Ideal S256x512 .bf16) (t : Vec Ideal S8x256x768 .f32)
    (r : Fin 256) (h : Fin 8) (d : Fin 64) : EReal :=
  rowMix (pairScore j (fun e => q (ix2 r (col h e)) * scale)
      ![fun n e => k0 (ix2 n (col h e)), fun n e => k1 (ix2 n (col h e)), fun n e => k2 (ix2 n (col h e))]
      (fun p n => t (ix3 h r (key p n))))
    ![fun n => v0 (ix2 n (col h d)), fun n => v1 (ix2 n (col h d)), fun n => v2 (ix2 n (col h d))]

variable (j : Fin 8) (q k0 k1 k2 v0 v1 v2 : Vec Ideal S256x512 .bf16) (t : Vec Ideal S8x256x768 .f32)

theorem tables_eq {te0 te1 te2 : Vec Ideal S1x256x256 .f32} (r : Fin 256) (h : Fin 8)
    (h0 : ∀ n, te0 (ix3 0 r n) = t (ix3 h r (key 0 n))) (h1 : ∀ n, te1 (ix3 0 r n) = t (ix3 h r (key 1 n)))
    (h2 : ∀ n, te2 (ix3 0 r n) = t (ix3 h r (key 2 n))) :
    ![fun n => te0 (ix3 0 r n), fun n => te1 (ix3 0 r n), fun n => te2 (ix3 0 r n)]
      = fun p n => t (ix3 h r (key p n)) := by
  funext p n
  match p with
  | ⟨0, _⟩ => exact h0 n
  | ⟨1, _⟩ => exact h1 n
  | ⟨2, _⟩ => exact h2 n

theorem pair_even {o : Nat} (hs : S256x512.Slices ![0, o] S256x128) (te0 to0 te1 to1 te2 to2 : Vec Ideal S1x256x256 .f32)
    (r : Fin 256) (h : Fin 8) (d : Fin 64) (l : Fin 128) (ho : 64 * h.val = o) (hl : l.val = d.val)
    (h0 : ∀ n, te0 (ix3 0 r n) = t (ix3 h r (key 0 n))) (h1 : ∀ n, te1 (ix3 0 r n) = t (ix3 h r (key 1 n)))
    (h2 : ∀ n, te2 (ix3 0 r n) = t (ix3 h r (key 2 n))) :
    pairVec (BitVec.ofNat 32 j.val) (extractStridedSlice S256x128 ![0, o] (scaledVec q) hs)
        (extractStridedSlice S256x128 ![0, o] k0 hs) (extractStridedSlice S256x128 ![0, o] k1 hs)
        (extractStridedSlice S256x128 ![0, o] k2 hs) (extractStridedSlice S256x128 ![0, o] v0 hs)
        (extractStridedSlice S256x128 ![0, o] v1 hs) (extractStridedSlice S256x128 ![0, o] v2 hs)
        te0 to0 te1 to1 te2 to2 (ix2 r l)
      = headMix j q k0 k1 k2 v0 v1 v2 t r h d := by
  have e : ∀ (x : Vec Ideal S256x512 .bf16) (n : Fin 256) (e : Fin 64),
      extractStridedSlice S256x128 ![0, o] x hs (ix2 n ⟨e.val, by omega⟩) = x (ix2 n (col h e)) := fun x n e =>
    slice_col hs x n _ _ (by show 64 * h.val + e.val = o + e.val; omega)
  have e' : ∀ (x : Vec Ideal S256x512 .bf16) (n : Fin 256),
      extractStridedSlice S256x128 ![0, o] x hs (ix2 n l) = x (ix2 n (col h d)) := fun x n =>
    slice_col hs x n _ _ (by show 64 * h.val + d.val = o + l.val; omega)
  rw [pair_apply, if_pos (by omega), tables_eq t r h h0 h1 h2]
  simp only [e, e', scaled_apply]
  rfl

theorem pair_odd {o : Nat} (hs : S256x512.Slices ![0, o] S256x128) (te0 to0 te1 to1 te2 to2 : Vec Ideal S1x256x256 .f32)
    (r : Fin 256) (h : Fin 8) (d : Fin 64) (l : Fin 128) (ho : 64 * h.val = o + 64) (hl : l.val = 64 + d.val)
    (h0 : ∀ n, to0 (ix3 0 r n) = t (ix3 h r (key 0 n))) (h1 : ∀ n, to1 (ix3 0 r n) = t (ix3 h r (key 1 n)))
    (h2 : ∀ n, to2 (ix3 0 r n) = t (ix3 h r (key 2 n))) :
    pairVec (BitVec.ofNat 32 j.val) (extractStridedSlice S256x128 ![0, o] (scaledVec q) hs)
        (extractStridedSlice S256x128 ![0, o] k0 hs) (extractStridedSlice S256x128 ![0, o] k1 hs)
        (extractStridedSlice S256x128 ![0, o] k2 hs) (extractStridedSlice S256x128 ![0, o] v0 hs)
        (extractStridedSlice S256x128 ![0, o] v1 hs) (extractStridedSlice S256x128 ![0, o] v2 hs)
        te0 to0 te1 to1 te2 to2 (ix2 r l)
      = headMix j q k0 k1 k2 v0 v1 v2 t r h d := by
  have e : ∀ (x : Vec Ideal S256x512 .bf16) (n : Fin 256) (e : Fin 64),
      extractStridedSlice S256x128 ![0, o] x hs (ix2 n ⟨64 + e.val, by omega⟩) = x (ix2 n (col h e)) := fun x n e =>
    slice_col hs x n _ _ (by show 64 * h.val + e.val = o + (64 + e.val); omega)
  have e' : ∀ (x : Vec Ideal S256x512 .bf16) (n : Fin 256),
      extractStridedSlice S256x128 ![0, o] x hs (ix2 n l) = x (ix2 n (col h d)) := fun x n =>
    slice_col hs x n _ _ (by show 64 * h.val + d.val = o + l.val; omega)
  rw [pair_apply, if_neg (by omega), tables_eq t r h h0 h1 h2]
  simp only [e, e', scaled_apply]
  rfl

/-- Column `64 h + d` of row `r` of the block written back is the row's weighted mean under head `h`. -/
theorem block_apply (i : grid0.Coords) (r : Fin 256) (h : Fin 8) (d : Fin 64) :
    blockVec i q k0 k1 k2 v0 v1 v2 t (ix2 r (col h d)) = headMix (i 1) q k0 k1 k2 v0 v1 v2 t r h d := by
  have hd := d.isLt
  obtain ⟨h, hh⟩ := h
  have hcases : h = 0 ∨ h = 1 ∨ h = 2 ∨ h = 3 ∨ h = 4 ∨ h = 5 ∨ h = 6 ∨ h = 7 := by omega
  unfold blockVec
  pointwise
  rcases hcases with rfl | rfl | rfl | rfl | rfl | rfl | rfl | rfl
  all_goals
    split_ifs <;> first | (exfalso; omega) | skip
  all_goals first
    | (refine pair_even (i 1) q k0 k1 k2 v0 v1 v2 t _ _ _ _ _ _ _ r _ d _ (by rfl) (by first | rfl | (dsimp only; omega)) (fun n => ?_) (fun n => ?_) (fun n => ?_) <;>
        exact ld_key _ t r n _ _ rfl rfl)
    | (refine pair_odd (i 1) q k0 k1 k2 v0 v1 v2 t _ _ _ _ _ _ _ r _ d _ (by rfl) (by first | rfl | (dsimp only; omega)) (fun n => ?_) (fun n => ?_) (fun n => ?_) <;>
        exact ld_key _ t r n _ _ rfl rfl)

end Cert.Attn
-- ==== Proof.Words.lean ====
/-
  THE WORDS OF THE TABLE OF BIASES: the distance each place of the table names, and which places a row sees.
-/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

/-- A column of the biases, gathered: entry `(h, x)` is the bias of head `h` at the distance word `x`
    names, kept inside the table. -/
theorem gather_col (x : Vec Ideal S8x320 .f32) (idx : IVec S1023x1 32) (h : Fin 8) (k : Fin 1023) :
    Host.gather gather_S8x320_S1023x1_S8x1023_0_1_n_n_1_1_81 x idx (ix2 h k)
      = x (ix2 h ⟨min (idx (ix2 k (0 : Fin 1))).toInt.toNat 319, by omega⟩) := by
  unfold Host.gather
  congr 1
  funext a
  refine Fin.ext ?_
  show gather_S8x320_S1023x1_S8x1023_0_1_n_n_1_1_81.start (ix2 h k) idx a
      + gather_S8x320_S1023x1_S8x1023_0_1_n_n_1_1_81.batchCoord (ix2 h k) a
      + gather_S8x320_S1023x1_S8x1023_0_1_n_n_1_1_81.offCoord (ix2 h k) a = _
  match a with
  | ⟨0, _⟩ =>
    show 0 + 0 + h.val = h.val
    omega
  | ⟨1, _⟩ =>
    have hsi : gather_S8x320_S1023x1_S8x1023_0_1_n_n_1_1_81.siIdx (ix2 h k) ⟨0, by decide⟩
        = ix2 k (0 : Fin 1) := by
      funext b
      refine Fin.ext ?_
      match b with
      | ⟨0, _⟩ => rfl
      | ⟨1, _⟩ => rfl
    show min (idx (gather_S8x320_S1023x1_S8x1023_0_1_n_n_1_1_81.siIdx (ix2 h k) ⟨0, by decide⟩)).toInt.toNat 319
      + 0 + 0 = _
    rw [hsi]
    rfl

/-- The word of a floor division by 64. -/
def sixtyFourth (w : BitVec 32) : BitVec 32 :=
  Scalar.select
    (IntOp.andi
      (IntOp.cmpi CmpIPredicate.ne
        (if w = 0 then 0 else if w.msb = true then -1 else 1)
        (if (64#32) = 0 then 0 else if BitVec.msb (64#32) = true then -1 else (1 : BitVec 32)))
      (IntOp.cmpi CmpIPredicate.ne (IntOp.remsi ArithUnit.host w 64#32) 0#32))
    (IntOp.subi (IntOp.divsi ArithUnit.host w 64#32) 1#32)
    (IntOp.divsi ArithUnit.host w 64#32)

theorem sixtyFourth_eq : ∀ n : Fin 768, sixtyFourth (BitVec.ofNat 32 n.val) = BitVec.ofNat 32 (n.val / 64) := by
  decide +kernel

/-- The words of the distances the table's rows hold. -/
def distVec : IVec S1023x1 32 :=
  broadcastInDim S1023x1 ![0] bcast_S1023_S1023x1_0
    (select
      (cmpi CmpIPredicate.slt
        (addi
          (minsi (broadcastInDim S1023 ![] bcast_S_S1023 (id (constantI S_ 32 256#32)))
            (maxsi (broadcastInDim S1023 ![] bcast_S_S1023 (id (constantI S_ 32 4294967233#32)))
              (subi (broadcastInDim S1023 ![] bcast_S_S1023 (constantI S_ 32 512#32))
                (select
                  (cmpi CmpIPredicate.slt (iotaInDim S1023 32 0)
                    (broadcastInDim S1023 ![] bcast_S_S1023 (constantI S_ 32 768#32)))
                  (iotaInDim S1023 32 0)
                  (subi (iotaInDim S1023 32 0)
                    (broadcastInDim S1023 ![] bcast_S_S1023 (constantI S_ 32 1023#32)))))))
          (broadcastInDim S1023 ![] bcast_S_S1023 (constantI S_ 32 63#32)))
        (broadcastInDim S1023 ![] bcast_S_S1023 (constantI S_ 32 0#32)))
      (addi
        (addi
          (minsi (broadcastInDim S1023 ![] bcast_S_S1023 (id (constantI S_ 32 256#32)))
            (maxsi (broadcastInDim S1023 ![] bcast_S_S1023 (id (constantI S_ 32 4294967233#32)))
              (subi (broadcastInDim S1023 ![] bcast_S_S1023 (constantI S_ 32 512#32))
                (select
                  (cmpi CmpIPredicate.slt (iotaInDim S1023 32 0)
                    (broadcastInDim S1023 ![] bcast_S_S1023 (constantI S_ 32 768#32)))
                  (iotaInDim S1023 32 0)
                  (subi (iotaInDim S1023 32 0)
                    (broadcastInDim S1023 ![] bcast_S_S1023 (constantI S_ 32 1023#32)))))))
          (broadcastInDim S1023 ![] bcast_S_S1023 (constantI S_ 32 63#32)))
        (broadcastInDim S1023 ![] bcast_S_S1023 (constantI S_ 32 320#32)))
      (addi
        (minsi (broadcastInDim S1023 ![] bcast_S_S1023 (id (constantI S_ 32 256#32)))
          (maxsi (broadcastInDim S1023 ![] bcast_S_S1023 (id (constantI S_ 32 4294967233#32)))
            (subi (broadcastInDim S1023 ![] bcast_S_S1023 (constantI S_ 32 512#32))
              (select
                (cmpi CmpIPredicate.slt (iotaInDim S1023 32 0)
                  (broadcastInDim S1023 ![] bcast_S_S1023 (constantI S_ 32 768#32)))
                (iotaInDim S1023 32 0)
                (subi (iotaInDim S1023 32 0)
                  (broadcastInDim S1023 ![] bcast_S_S1023 (constantI S_ 32 1023#32)))))))
        (broadcastInDim S1023 ![] bcast_S_S1023 (constantI S_ 32 63#32))))

/-- Row `k` of the table before it is laid out: the distance `512 - k`, a `k` past 767 counted from
    the end, cut to the biases' range. -/
def dist (k : ℕ) : ℕ :=
  if k < 768 then 575 - max k 256 else min (1598 - k) 319

/-- The same distance as the words compute it from the word of `k`. -/
def distWord (w : BitVec 32) : BitVec 32 :=
  let u := IntOp.addi (IntOp.minsi 256#32 (IntOp.maxsi 4294967233#32 (IntOp.subi 512#32
    (Scalar.select (IntOp.cmpi CmpIPredicate.slt w 768#32) w (IntOp.subi w 1023#32))))) 63#32
  Scalar.select (IntOp.cmpi CmpIPredicate.slt u 0#32) (IntOp.addi u 320#32) u

theorem distWord_eq : ∀ k : Fin 1023, (distWord (BitVec.ofNat 32 k.val)).toInt.toNat = dist k.val := by
  decide +kernel

theorem distVec_apply (k : Fin 1023) : distVec (ix2 k (0 : Fin 1)) = distWord (BitVec.ofNat 32 k.val) := by
  unfold distVec distWord
  pointwise
  rfl

/-- Whether a row sees a place of its window: the window's block of 64 is one of the nine the row's own
    block reaches back to. -/
abbrev inBand (r n : ℕ) : Prop := r / 64 ≤ n / 64 ∧ n / 64 ≤ r / 64 + 8

/-- The bit that compares the word of a window's block with that of the row's. -/
def bandWord (w u : BitVec 32) : BitVec 1 :=
  IntOp.andi (IntOp.cmpi CmpIPredicate.sge w u) (IntOp.cmpi CmpIPredicate.sle w (IntOp.addi u 8#32))

theorem bandWord_eq : ∀ (a : Fin 12) (b : Fin 4),
    bandWord (BitVec.ofNat 32 a.val) (BitVec.ofNat 32 b.val) = if b.val ≤ a.val ∧ a.val ≤ b.val + 8 then 1#1 else 0#1 := by
  decide +kernel

end Cert.Attn
-- ==== Proof.Table.lean ====
/-
  THE ARRAYS THE ATTENTION CALL READS: the rows of queries, keys and values, and the table of biases.
-/
module

public import proofs.«01_k».proof.Proof.Words
public import Idealize.ShloMosaic.Lib.StableHlo.ReadAt
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- The table's words read as what they choose: a bias at its distance, or the filler. -/
theorem table_words (x : Vec Ideal S8x320 .f32) (h : Fin 8) (r : Fin 256) (n : Fin 768)
    (k : Fin 1023) :
    Scalar.select (bandWord (sixtyFourth (BitVec.ofNat 32 n.val)) (sixtyFourth (BitVec.ofNat 32 r.val)))
      (Host.gather gather_S8x320_S1023x1_S8x1023_0_1_n_n_1_1_81 x distVec
        (ix2 h k)) (Ideal.ofBits .f32 4286578688#32)
      = if inBand r.val n.val then x (ix2 h ⟨min (dist k.val) 319, by omega⟩)
        else Ideal.ofBits .f32 4286578688#32 := by
  have h1 := sixtyFourth_eq n
  have h2 := sixtyFourth_eq ⟨r.val, by omega⟩
  have h3 := bandWord_eq ⟨n.val / 64, by omega⟩ ⟨r.val / 64, by omega⟩
  have h4 := (congrArg (fun w : BitVec 32 => w.toInt.toNat) (distVec_apply k)).trans (distWord_eq k)
  simp only at h2 h3 h4
  have h5 : Host.gather gather_S8x320_S1023x1_S8x1023_0_1_n_n_1_1_81 x distVec (ix2 h k)
      = x (ix2 h ⟨min (dist k.val) 319, by omega⟩) :=
    (gather_col x distVec h _).trans (congrArg x (congrArg (ix2 h) (Fin.ext (congrArg (fun d => min d 319) h4))))
  rw [h5, h1, h2, h3]
  by_cases hb : r.val / 64 ≤ n.val / 64 ∧ n.val / 64 ≤ r.val / 64 + 8
  · rw [if_pos hb, if_pos hb]
    exact if_pos rfl
  · rw [if_neg hb, if_neg hb]
    exact if_neg (by decide)

/-- The rows of queries, keys and values are the argument's, its two leading axes run together. -/
theorem rows_apply (c : Dev nD) (R : Fin 32768) (C : Fin 1536) :
    (V m c main_v1 : Vec Ideal S32768x1536 .bf16) (ix2 R C)
      = (m (c, Proc.tc.devRef main_arg0) : Vec Ideal S16x2048x1536 .f32)
          (ix3 (⟨R.val / 2048, by omega⟩ : Fin 16) (⟨R.val % 2048, by omega⟩ : Fin 2048) C) := by
  unfold V
  after_reads_at

/-- The table of biases: the bias of the distance between a row and a place of its window, nothing where
    the row does not see the place. -/
theorem table_apply (c : Dev nD) (h : Fin 8) (r : Fin 256) (n : Fin 768) :
    (V m c main_v42 : Vec Ideal S8x256x768 .f32) (ix3 h r n)
      = if inBand r.val n.val then
          (m (c, Proc.tc.devRef main_arg1) : Vec Ideal S8x320 .f32)
            (ix2 h ⟨min (dist ((r.val * 1022 + n.val) % 1023)) 319, by omega⟩)
        else Ideal.ofBits .f32 4286578688#32 := by
  unfold V
  after_reads_at
  exact table_words _ h r n _

end Cert.Attn
-- ==== Proof.Array.lean ====
/-
  WHAT THE KERNEL LEAVES IN ITS RESULT: at row `256 t + r`, column `64 h + d`, the weighted mean of head `h`'s
  values over the three blocks of 256 rows that end at the row's own.
-/
module

public import proofs.«01_k».proof.Proof.Block
public import proofs.«01_k».proof.Proof.BlockAt
public import proofs.«01_k».proof.Proof.Table
public import proofs.«01_k».proof.Proof.Gen.KernelIdeal.Value
public import Idealize.ShloMosaic.Lib.Pipeline.Value

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

/-- Row `n` of part `p` of the window of block `j`, as a place of the sequence; the parts before the
    sequence's beginning are read as its first block. -/
def place (j : Fin 8) (p : Fin 3) (n : Fin 256) : Fin 2048 := ⟨256 * (j.val + p.val - 2) + n.val, by omega⟩

/-- The entry of the table of biases. -/
def bias (rb : Vec Ideal S8x320 .f32) (h : Fin 8) (r : Fin 256) (n : Fin 768) : EReal :=
  if inBand r.val n.val then rb (ix2 h ⟨min (dist ((r.val * 1022 + n.val) % 1023)) 319, by omega⟩)
  else Ideal.ofBits .f32 4286578688#32

/-- Column `d` of head `h` in the queries (`s = 0`), the keys (`1`) and the values (`2`). -/
def third (s : Fin 3) (h : Fin 8) (d : Fin 64) : Fin 1536 := ⟨512 * s.val + (64 * h.val + d.val), by omega⟩

/-- One entry of the result, row `256 j + r` of sequence `b`. -/
def mixed (z : Vec Ideal S16x2048x1536 .f32) (rb : Vec Ideal S8x320 .f32) (b : Fin 16) (j : Fin 8) (r : Fin 256)
    (h : Fin 8) (d : Fin 64) : EReal :=
  rowMix (pairScore j (fun e => z (ix3 b (⟨256 * j.val + r.val, by omega⟩ : Fin 2048) (third 0 h e)) * scale)
      (fun p n e => z (ix3 b (place j p n) (third 1 h e))) (fun p n => bias rb h r (key p n)))
    (fun p n => z (ix3 b (place j p n) (third 2 h d)))

/-- The whole result. -/
def mixedRows (z : Vec Ideal S16x2048x1536 .f32) (rb : Vec Ideal S8x320 .f32) : Vec Ideal S32768x512 .bf16 :=
  fun i => mixed z rb ⟨(i 0).val / 2048, by have := (i 0).isLt; simp only [Shape.size] at this; change _ < 32768 at this; omega⟩
    ⟨(i 0).val % 2048 / 256, by omega⟩ ⟨(i 0).val % 256, by omega⟩
    ⟨(i 1).val / 64, by have := (i 1).isLt; change _ < 512 at this; omega⟩ ⟨(i 1).val % 64, by omega⟩

variable (m : (ℓ : Loc nD τ sig) → Buf (Elt Ideal) ℓ)

/-- The rows of queries, keys and values as the memory holds them. -/
abbrev argZ (c : Dev nD) : Vec Ideal S16x2048x1536 .f32 := m (c, Proc.tc.devRef main_arg0)
/-- The biases as the memory holds them. -/
abbrev argB (c : Dev nD) : Vec Ideal S8x320 .f32 := m (c, Proc.tc.devRef main_arg1)

theorem N_eq : cfg0.N = 128 := N_0

/-- The sequence a grid point works on, and its block of that sequence. -/
def seqOf (t : Fin cfg0.N) : Fin 16 := ⟨t.val / 8, by have := t.isLt; have := N_eq; omega⟩
def blockOf (t : Fin cfg0.N) : Fin 8 := ⟨t.val % 8, by omega⟩

theorem at_0 : ∀ t : Fin cfg0.N, win0_0.index t 0 * win0_0.size 0 = 256 * t.val
    ∧ win0_0.index t 1 * win0_0.size 1 = 0 :=
  (by decide +kernel : ∀ t : Fin grid0.N, win0_0.index t 0 * win0_0.size 0 = 256 * t.val
    ∧ win0_0.index t 1 * win0_0.size 1 = 0)

/-- The block of queries. -/
theorem iblk_0 (c : Dev nD) (t : Fin cfg0.N) (r : Fin 256) (h : Fin 8) (d : Fin 64) :
    (iblk m c 0 t : Vec Ideal S256x512 .bf16) (ix2 r (col h d))
      = argZ m c (ix3 (seqOf t) (⟨256 * (blockOf t).val + r.val, by have := (blockOf t).isLt; omega⟩ : Fin 2048) (third 0 h d)) := by
  have hN := N_eq
  have ht := t.isLt
  refine Eq.trans (b := (V m c main_v1 : Vec Ideal S32768x1536 .bf16)
    (ix2 (⟨256 * t.val + r.val, by omega⟩ : Fin 32768) (⟨0 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_0.index t 0 * win0_0.size 0 + 1 * r.val = 256 * t.val + r.val
      rw [(at_0 t).1, one_mul]
    | ⟨1, _⟩ =>
      show win0_0.index t 1 * win0_0.size 1 + 1 * (64 * h.val + d.val) = 0 + (64 * h.val + d.val)
      rw [(at_0 t).2, one_mul]
  · rw [rows_apply]
    refine congrArg (argZ m c) (funext fun a => Fin.ext ?_)
    match a with
    | ⟨0, _⟩ => show (256 * t.val + r.val) / 2048 = t.val / 8; omega
    | ⟨1, _⟩ => show (256 * t.val + r.val) % 2048 = _; simp only [place, blockOf, ix3]; omega
    | ⟨2, _⟩ => rfl

theorem at_1 : ∀ t : Fin cfg0.N, win0_1.index t 0 * win0_1.size 0 = 256 * (t.val / 8 * 8 + (t.val % 8 + 0 - 2))
    ∧ win0_1.index t 1 * win0_1.size 1 = 512 :=
  (by decide +kernel : ∀ t : Fin grid0.N, win0_1.index t 0 * win0_1.size 0 = 256 * (t.val / 8 * 8 + (t.val % 8 + 0 - 2))
    ∧ win0_1.index t 1 * win0_1.size 1 = 512)

/-- Part 0 of the keys. -/
theorem iblk_1 (c : Dev nD) (t : Fin cfg0.N) (r : Fin 256) (h : Fin 8) (d : Fin 64) :
    (iblk m c 1 t : Vec Ideal S256x512 .bf16) (ix2 r (col h d))
      = argZ m c (ix3 (seqOf t) (place (blockOf t) 0 r) (third 1 h d)) := by
  have hN := N_eq
  have ht := t.isLt
  refine Eq.trans (b := (V m c main_v1 : Vec Ideal S32768x1536 .bf16)
    (ix2 (⟨256 * (t.val / 8 * 8 + (t.val % 8 + 0 - 2)) + r.val, by omega⟩ : Fin 32768) (⟨512 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_1.index t 0 * win0_1.size 0 + 1 * r.val = 256 * (t.val / 8 * 8 + (t.val % 8 + 0 - 2)) + r.val
      rw [(at_1 t).1, one_mul]
    | ⟨1, _⟩ =>
      show win0_1.index t 1 * win0_1.size 1 + 1 * (64 * h.val + d.val) = 512 + (64 * h.val + d.val)
      rw [(at_1 t).2, one_mul]
  · rw [rows_apply]
    refine congrArg (argZ m c) (funext fun a => Fin.ext ?_)
    match a with
    | ⟨0, _⟩ => show (256 * (t.val / 8 * 8 + (t.val % 8 + 0 - 2)) + r.val) / 2048 = t.val / 8; omega
    | ⟨1, _⟩ => show (256 * (t.val / 8 * 8 + (t.val % 8 + 0 - 2)) + r.val) % 2048 = _; simp only [place, blockOf, ix3]; omega
    | ⟨2, _⟩ => rfl

theorem at_2 : ∀ t : Fin cfg0.N, win0_2.index t 0 * win0_2.size 0 = 256 * (t.val / 8 * 8 + (t.val % 8 + 1 - 2))
    ∧ win0_2.index t 1 * win0_2.size 1 = 512 :=
  (by decide +kernel : ∀ t : Fin grid0.N, win0_2.index t 0 * win0_2.size 0 = 256 * (t.val / 8 * 8 + (t.val % 8 + 1 - 2))
    ∧ win0_2.index t 1 * win0_2.size 1 = 512)

/-- Part 1 of the keys. -/
theorem iblk_2 (c : Dev nD) (t : Fin cfg0.N) (r : Fin 256) (h : Fin 8) (d : Fin 64) :
    (iblk m c 2 t : Vec Ideal S256x512 .bf16) (ix2 r (col h d))
      = argZ m c (ix3 (seqOf t) (place (blockOf t) 1 r) (third 1 h d)) := by
  have hN := N_eq
  have ht := t.isLt
  refine Eq.trans (b := (V m c main_v1 : Vec Ideal S32768x1536 .bf16)
    (ix2 (⟨256 * (t.val / 8 * 8 + (t.val % 8 + 1 - 2)) + r.val, by omega⟩ : Fin 32768) (⟨512 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_2.index t 0 * win0_2.size 0 + 1 * r.val = 256 * (t.val / 8 * 8 + (t.val % 8 + 1 - 2)) + r.val
      rw [(at_2 t).1, one_mul]
    | ⟨1, _⟩ =>
      show win0_2.index t 1 * win0_2.size 1 + 1 * (64 * h.val + d.val) = 512 + (64 * h.val + d.val)
      rw [(at_2 t).2, one_mul]
  · rw [rows_apply]
    refine congrArg (argZ m c) (funext fun a => Fin.ext ?_)
    match a with
    | ⟨0, _⟩ => show (256 * (t.val / 8 * 8 + (t.val % 8 + 1 - 2)) + r.val) / 2048 = t.val / 8; omega
    | ⟨1, _⟩ => show (256 * (t.val / 8 * 8 + (t.val % 8 + 1 - 2)) + r.val) % 2048 = _; simp only [place, blockOf, ix3]; omega
    | ⟨2, _⟩ => rfl

theorem at_3 : ∀ t : Fin cfg0.N, win0_3.index t 0 * win0_3.size 0 = 256 * (t.val / 8 * 8 + (t.val % 8 + 2 - 2))
    ∧ win0_3.index t 1 * win0_3.size 1 = 512 :=
  (by decide +kernel : ∀ t : Fin grid0.N, win0_3.index t 0 * win0_3.size 0 = 256 * (t.val / 8 * 8 + (t.val % 8 + 2 - 2))
    ∧ win0_3.index t 1 * win0_3.size 1 = 512)

/-- Part 2 of the keys. -/
theorem iblk_3 (c : Dev nD) (t : Fin cfg0.N) (r : Fin 256) (h : Fin 8) (d : Fin 64) :
    (iblk m c 3 t : Vec Ideal S256x512 .bf16) (ix2 r (col h d))
      = argZ m c (ix3 (seqOf t) (place (blockOf t) 2 r) (third 1 h d)) := by
  have hN := N_eq
  have ht := t.isLt
  refine Eq.trans (b := (V m c main_v1 : Vec Ideal S32768x1536 .bf16)
    (ix2 (⟨256 * (t.val / 8 * 8 + (t.val % 8 + 2 - 2)) + r.val, by omega⟩ : Fin 32768) (⟨512 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_3.index t 0 * win0_3.size 0 + 1 * r.val = 256 * (t.val / 8 * 8 + (t.val % 8 + 2 - 2)) + r.val
      rw [(at_3 t).1, one_mul]
    | ⟨1, _⟩ =>
      show win0_3.index t 1 * win0_3.size 1 + 1 * (64 * h.val + d.val) = 512 + (64 * h.val + d.val)
      rw [(at_3 t).2, one_mul]
  · rw [rows_apply]
    refine congrArg (argZ m c) (funext fun a => Fin.ext ?_)
    match a with
    | ⟨0, _⟩ => show (256 * (t.val / 8 * 8 + (t.val % 8 + 2 - 2)) + r.val) / 2048 = t.val / 8; omega
    | ⟨1, _⟩ => show (256 * (t.val / 8 * 8 + (t.val % 8 + 2 - 2)) + r.val) % 2048 = _; simp only [place, blockOf, ix3]; omega
    | ⟨2, _⟩ => rfl

theorem at_4 : ∀ t : Fin cfg0.N, win0_4.index t 0 * win0_4.size 0 = 256 * (t.val / 8 * 8 + (t.val % 8 + 0 - 2))
    ∧ win0_4.index t 1 * win0_4.size 1 = 1024 :=
  (by decide +kernel : ∀ t : Fin grid0.N, win0_4.index t 0 * win0_4.size 0 = 256 * (t.val / 8 * 8 + (t.val % 8 + 0 - 2))
    ∧ win0_4.index t 1 * win0_4.size 1 = 1024)

/-- Part 0 of the values. -/
theorem iblk_4 (c : Dev nD) (t : Fin cfg0.N) (r : Fin 256) (h : Fin 8) (d : Fin 64) :
    (iblk m c 4 t : Vec Ideal S256x512 .bf16) (ix2 r (col h d))
      = argZ m c (ix3 (seqOf t) (place (blockOf t) 0 r) (third 2 h d)) := by
  have hN := N_eq
  have ht := t.isLt
  refine Eq.trans (b := (V m c main_v1 : Vec Ideal S32768x1536 .bf16)
    (ix2 (⟨256 * (t.val / 8 * 8 + (t.val % 8 + 0 - 2)) + r.val, by omega⟩ : Fin 32768) (⟨1024 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_4.index t 0 * win0_4.size 0 + 1 * r.val = 256 * (t.val / 8 * 8 + (t.val % 8 + 0 - 2)) + r.val
      rw [(at_4 t).1, one_mul]
    | ⟨1, _⟩ =>
      show win0_4.index t 1 * win0_4.size 1 + 1 * (64 * h.val + d.val) = 1024 + (64 * h.val + d.val)
      rw [(at_4 t).2, one_mul]
  · rw [rows_apply]
    refine congrArg (argZ m c) (funext fun a => Fin.ext ?_)
    match a with
    | ⟨0, _⟩ => show (256 * (t.val / 8 * 8 + (t.val % 8 + 0 - 2)) + r.val) / 2048 = t.val / 8; omega
    | ⟨1, _⟩ => show (256 * (t.val / 8 * 8 + (t.val % 8 + 0 - 2)) + r.val) % 2048 = _; simp only [place, blockOf, ix3]; omega
    | ⟨2, _⟩ => rfl

theorem at_5 : ∀ t : Fin cfg0.N, win0_5.index t 0 * win0_5.size 0 = 256 * (t.val / 8 * 8 + (t.val % 8 + 1 - 2))
    ∧ win0_5.index t 1 * win0_5.size 1 = 1024 :=
  (by decide +kernel : ∀ t : Fin grid0.N, win0_5.index t 0 * win0_5.size 0 = 256 * (t.val / 8 * 8 + (t.val % 8 + 1 - 2))
    ∧ win0_5.index t 1 * win0_5.size 1 = 1024)

/-- Part 1 of the values. -/
theorem iblk_5 (c : Dev nD) (t : Fin cfg0.N) (r : Fin 256) (h : Fin 8) (d : Fin 64) :
    (iblk m c 5 t : Vec Ideal S256x512 .bf16) (ix2 r (col h d))
      = argZ m c (ix3 (seqOf t) (place (blockOf t) 1 r) (third 2 h d)) := by
  have hN := N_eq
  have ht := t.isLt
  refine Eq.trans (b := (V m c main_v1 : Vec Ideal S32768x1536 .bf16)
    (ix2 (⟨256 * (t.val / 8 * 8 + (t.val % 8 + 1 - 2)) + r.val, by omega⟩ : Fin 32768) (⟨1024 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_5.index t 0 * win0_5.size 0 + 1 * r.val = 256 * (t.val / 8 * 8 + (t.val % 8 + 1 - 2)) + r.val
      rw [(at_5 t).1, one_mul]
    | ⟨1, _⟩ =>
      show win0_5.index t 1 * win0_5.size 1 + 1 * (64 * h.val + d.val) = 1024 + (64 * h.val + d.val)
      rw [(at_5 t).2, one_mul]
  · rw [rows_apply]
    refine congrArg (argZ m c) (funext fun a => Fin.ext ?_)
    match a with
    | ⟨0, _⟩ => show (256 * (t.val / 8 * 8 + (t.val % 8 + 1 - 2)) + r.val) / 2048 = t.val / 8; omega
    | ⟨1, _⟩ => show (256 * (t.val / 8 * 8 + (t.val % 8 + 1 - 2)) + r.val) % 2048 = _; simp only [place, blockOf, ix3]; omega
    | ⟨2, _⟩ => rfl

theorem at_6 : ∀ t : Fin cfg0.N, win0_6.index t 0 * win0_6.size 0 = 256 * (t.val / 8 * 8 + (t.val % 8 + 2 - 2))
    ∧ win0_6.index t 1 * win0_6.size 1 = 1024 :=
  (by decide +kernel : ∀ t : Fin grid0.N, win0_6.index t 0 * win0_6.size 0 = 256 * (t.val / 8 * 8 + (t.val % 8 + 2 - 2))
    ∧ win0_6.index t 1 * win0_6.size 1 = 1024)

/-- Part 2 of the values. -/
theorem iblk_6 (c : Dev nD) (t : Fin cfg0.N) (r : Fin 256) (h : Fin 8) (d : Fin 64) :
    (iblk m c 6 t : Vec Ideal S256x512 .bf16) (ix2 r (col h d))
      = argZ m c (ix3 (seqOf t) (place (blockOf t) 2 r) (third 2 h d)) := by
  have hN := N_eq
  have ht := t.isLt
  refine Eq.trans (b := (V m c main_v1 : Vec Ideal S32768x1536 .bf16)
    (ix2 (⟨256 * (t.val / 8 * 8 + (t.val % 8 + 2 - 2)) + r.val, by omega⟩ : Fin 32768) (⟨1024 + (64 * h.val + d.val), by omega⟩ : Fin 1536))) ?_ ?_
  · show (V m c main_v1 : Vec Ideal S32768x1536 .bf16) _ = _
    refine congrArg (V m c main_v1 : Vec Ideal S32768x1536 .bf16) (funext fun a => Fin.ext ?_)
    match a with
    | ⟨0, _⟩ =>
      show win0_6.index t 0 * win0_6.size 0 + 1 * r.val = 256 * (t.val / 8 * 8 + (t.val % 8 + 2 - 2)) + r.val
      rw [(at_6 t).1, one_mul]
    | ⟨1, _⟩ =>
      show win0_6.index t 1 * win0_6.size 1 + 1 * (64 * h.val + d.val) = 1024 + (64 * h.val + d.val)
      rw [(at_6 t).2, one_mul]
  · rw [rows_apply]
    refine congrArg (argZ m c) (funext fun a => Fin.ext ?_)
    match a with
    | ⟨0, _⟩ => show (256 * (t.val / 8 * 8 + (t.val % 8 + 2 - 2)) + r.val) / 2048 = t.val / 8; omega
    | ⟨1, _⟩ => show (256 * (t.val / 8 * 8 + (t.val % 8 + 2 - 2)) + r.val) % 2048 = _; simp only [place, blockOf, ix3]; omega
    | ⟨2, _⟩ => rfl

theorem at_7 : ∀ t : Fin cfg0.N, win0_7.index t 0 * win0_7.size 0 = 0
    ∧ win0_7.index t 1 * win0_7.size 1 = 0 ∧ win0_7.index t 2 * win0_7.size 2 = 0 :=
  (by decide +kernel : ∀ t : Fin grid0.N, win0_7.index t 0 * win0_7.size 0 = 0
    ∧ win0_7.index t 1 * win0_7.size 1 = 0 ∧ win0_7.index t 2 * win0_7.size 2 = 0)

/-- The table, staged whole at every point. -/
theorem iblk_7 (c : Dev nD) (t : Fin cfg0.N) (h : Fin 8) (r : Fin 256) (n : Fin 768) :
    (iblk m c 7 t : Vec Ideal S8x256x768 .f32) (ix3 h r n) = bias (argB m c) h r n := by
  refine Eq.trans (b := (V m c main_v42 : Vec Ideal S8x256x768 .f32) (ix3 h r n)) ?_ (table_apply m c h r n)
  show (V m c main_v42 : Vec Ideal S8x256x768 .f32) _ = _
  refine congrArg (V m c main_v42 : Vec Ideal S8x256x768 .f32) (funext fun a => Fin.ext ?_)
  match a with
  | ⟨0, _⟩ => show win0_7.index t 0 * win0_7.size 0 + 1 * h.val = h.val; rw [(at_7 t).1]; omega
  | ⟨1, _⟩ => show win0_7.index t 1 * win0_7.size 1 + 1 * r.val = r.val; rw [(at_7 t).2.1]; omega
  | ⟨2, _⟩ => show win0_7.index t 2 * win0_7.size 2 + 1 * n.val = n.val; rw [(at_7 t).2.2]; omega

theorem coord_j (t : Fin cfg0.N) : grid0.coords t 1 = blockOf t :=
  Fin.ext ((by decide +kernel : ∀ t : Fin grid0.N, (grid0.coords t 1).val = t.val % 8) t)

/-- A block's entry depends on what the staged blocks hold at the head's columns. -/
theorem headMix_of (j : Fin 8) (q k0 k1 k2 v0 v1 v2 : Vec Ideal S256x512 .bf16) (t : Vec Ideal S8x256x768 .f32)
    (z : Vec Ideal S16x2048x1536 .f32) (rb : Vec Ideal S8x320 .f32) (b : Fin 16) (r : Fin 256) (h : Fin 8) (d : Fin 64)
    (hq : ∀ e, q (ix2 r (col h e)) = z (ix3 b (⟨256 * j.val + r.val, by omega⟩ : Fin 2048) (third 0 h e)))
    (hk0 : ∀ n e, k0 (ix2 n (col h e)) = z (ix3 b (place j 0 n) (third 1 h e)))
    (hk1 : ∀ n e, k1 (ix2 n (col h e)) = z (ix3 b (place j 1 n) (third 1 h e)))
    (hk2 : ∀ n e, k2 (ix2 n (col h e)) = z (ix3 b (place j 2 n) (third 1 h e)))
    (hv0 : ∀ n, v0 (ix2 n (col h d)) = z (ix3 b (place j 0 n) (third 2 h d)))
    (hv1 : ∀ n, v1 (ix2 n (col h d)) = z (ix3 b (place j 1 n) (third 2 h d)))
    (hv2 : ∀ n, v2 (ix2 n (col h d)) = z (ix3 b (place j 2 n) (third 2 h d)))
    (ht : ∀ n, t (ix3 h r n) = bias rb h r n) :
    headMix j q k0 k1 k2 v0 v1 v2 t r h d = mixed z rb b j r h d := by
  have e1 : (fun e => q (ix2 r (col h e)) * scale)
      = fun e => z (ix3 b (⟨256 * j.val + r.val, by omega⟩ : Fin 2048) (third 0 h e)) * scale :=
    funext fun e => congrArg (· * scale) (hq e)
  have e2 : (![fun n e => k0 (ix2 n (col h e)), fun n e => k1 (ix2 n (col h e)), fun n e => k2 (ix2 n (col h e))]
      : Fin 3 → Fin 256 → Fin 64 → EReal) = fun p n e => z (ix3 b (place j p n) (third 1 h e)) := by
    funext p n e
    match p with
    | ⟨0, _⟩ => exact hk0 n e
    | ⟨1, _⟩ => exact hk1 n e
    | ⟨2, _⟩ => exact hk2 n e
  have e3 : (![fun n => v0 (ix2 n (col h d)), fun n => v1 (ix2 n (col h d)), fun n => v2 (ix2 n (col h d))]
      : Fin 3 → Fin 256 → EReal) = fun p n => z (ix3 b (place j p n) (third 2 h d)) := by
    funext p n
    match p with
    | ⟨0, _⟩ => exact hv0 n
    | ⟨1, _⟩ => exact hv1 n
    | ⟨2, _⟩ => exact hv2 n
  have e4 : (fun (p : Fin 3) (n : Fin 256) => t (ix3 h r (key p n))) = fun p n => bias rb h r (key p n) :=
    funext fun p => funext fun n => ht (key p n)
  unfold headMix mixed
  rw [e1, e2, e3, e4]

/-- One grid point's block of the result, entry by entry. -/
theorem point_apply (c : Dev nD) (t : Fin cfg0.N) (r : Fin 256) (h : Fin 8) (d : Fin 64) :
    blockVec (grid0.coords t) (iblk m c 0 t) (iblk m c 1 t) (iblk m c 2 t) (iblk m c 3 t) (iblk m c 4 t)
        (iblk m c 5 t) (iblk m c 6 t) (iblk m c 7 t) (ix2 r (col h d))
      = mixed (argZ m c) (argB m c) (seqOf t) (blockOf t) r h d := by
  rw [block_apply, coord_j]
  exact headMix_of _ _ _ _ _ _ _ _ _ _ _ _ r h d (fun e => iblk_0 m c t r h e) (fun n e => iblk_1 m c t n h e)
    (fun n e => iblk_2 m c t n h e) (fun n e => iblk_3 m c t n h e) (fun n => iblk_4 m c t n h d)
    (fun n => iblk_5 m c t n h d) (fun n => iblk_6 m c t n h d) (fun n => iblk_7 m c t h r n)

theorem at_8 : ∀ t : Fin cfg0.N, win0_8.index t 0 * win0_8.size 0 = 256 * t.val
    ∧ win0_8.index t 1 * win0_8.size 1 = 0
    ∧ win0_8.xsize (grid0.coords t) 0 = 256 ∧ win0_8.xsize (grid0.coords t) 1 = 512 :=
  (by decide +kernel : ∀ t : Fin grid0.N, win0_8.index t 0 * win0_8.size 0 = 256 * t.val
    ∧ win0_8.index t 1 * win0_8.size 1 = 0
    ∧ win0_8.xsize (grid0.coords t) 0 = 256 ∧ win0_8.xsize (grid0.coords t) 1 = 512)

/-- The whole result read where a grid point writes. -/
theorem mixedRows_apply (z : Vec Ideal S16x2048x1536 .f32) (rb : Vec Ideal S8x320 .f32) (t : Fin cfg0.N)
    (r : Fin 256) (h : Fin 8) (d : Fin 64) (i : S32768x512.Idx) (h0 : (i 0).val = 256 * t.val + r.val)
    (h1 : (i 1).val = 64 * h.val + d.val) :
    mixedRows z rb i = mixed z rb (seqOf t) (blockOf t) r h d := by
  have hN := N_eq
  have ht := t.isLt
  unfold mixedRows
  congr 1 <;> refine Fin.ext ?_ <;> simp only [seqOf, blockOf, h0, h1] <;> omega

/-- What a point writes back is its block of the whole result. -/
theorem flushed_eq (c : Dev nD) (t : Fin cfg0.N) :
    (dats m 0 c).flushed 8 t = ((cfg0.win 8).blk t).view.read (Elt Ideal) (mixedRows (argZ m c) (argB m c)) := by
  rw [Cert.KernelIdeal.Value.flushed8, out_eq]
  funext x
  obtain ⟨r, hr⟩ : ∃ r : Fin 256, r.val = (x 0).val := ⟨⟨(x 0).val, (x 0).isLt⟩, rfl⟩
  obtain ⟨l, hl⟩ : ∃ l : Fin 512, l.val = (x 1).val := ⟨⟨(x 1).val, (x 1).isLt⟩, rfl⟩
  obtain ⟨h, d, hcol⟩ : ∃ (h : Fin 8) (d : Fin 64), l = col h d :=
    ⟨⟨l.val / 64, by omega⟩, ⟨l.val % 64, by omega⟩, Fin.ext (show l.val = 64 * (l.val / 64) + l.val % 64 by omega)⟩
  have hlc : l.val = 64 * h.val + d.val := congrArg Fin.val hcol
  refine Eq.trans ?_ ((point_apply m c t r h d).trans (mixedRows_apply _ _ t r h d _ ?_ ?_).symm)
  · show blockVec _ _ _ _ _ _ _ _ _ _ = _
    refine congrArg (blockVec (grid0.coords t) (iblk m c 0 t) (iblk m c 1 t) (iblk m c 2 t) (iblk m c 3 t) (iblk m c 4 t)
        (iblk m c 5 t) (iblk m c 6 t) (iblk m c 7 t)) (funext fun a => Fin.ext ?_)
    match a with
    | ⟨0, _⟩ => exact hr.symm
    | ⟨1, _⟩ => exact hl.symm.trans hlc
  · show win0_8.index t 0 * win0_8.size 0 + 1 * (x 0).val = _
    rw [(at_8 t).1, hr, one_mul]
  · show win0_8.index t 1 * win0_8.size 1 + 1 * (x 1).val = _
    rw [(at_8 t).2.1, one_mul, zero_add, ← hl, hlc]

/-- An index of the result lies in the block of the point its row names. -/
theorem mem_blk (t : Fin cfg0.N) (i : S32768x512.Idx) (h : 256 * t.val ≤ (i 0).val ∧ (i 0).val < 256 * t.val + 256) :
    i ∈ ((cfg0.win 8).blk t).view.set := by
  show i ∈ ((View.whole main_v43).slice (win0_8.rect t)).set
  rw [View.set_slice_whole, Rect.mem_set_unit]
  have h1 : (i 1 : Nat) < 512 := (i 1).isLt
  have e := at_8 t
  intro a
  match a with
  | ⟨0, _⟩ =>
    show win0_8.index t 0 * win0_8.size 0 ≤ (i 0 : Nat)
      ∧ (i 0 : Nat) < win0_8.index t 0 * win0_8.size 0 + win0_8.xsize (grid0.coords t) 0
    rw [e.1, e.2.2.1]; exact h
  | ⟨1, _⟩ =>
    show win0_8.index t 1 * win0_8.size 1 ≤ (i 1 : Nat)
      ∧ (i 1 : Nat) < win0_8.index t 1 * win0_8.size 1 + win0_8.xsize (grid0.coords t) 1
    rw [e.2.1, e.2.2.2]; omega

/-- The blocks tile the result. -/
theorem cover (i : S32768x512.Idx) :
    ∃ t : Fin cfg0.N, (cfg0.win 8).flush t = true ∧ i ∈ ((cfg0.win 8).blk t).view.set := by
  have h0 : (i 0 : Nat) < 32768 := (i 0).isLt
  have hN := N_eq
  refine ⟨⟨(i 0).val / 256, by omega⟩, flush0_8 _, mem_blk _ _ ?_⟩
  dsimp only
  omega

/-- So the result array ends holding the whole result, -/
theorem final (c : Dev nD) : (dats m 0 c).arrAt 8 cfg0.N = mixedRows (argZ m c) (argB m c) :=
  (dats m 0 c).arrAt_eq_of_cover 8 (mixedRows (argZ m c) (argB m c)) (fun t _ => flushed_eq m c t) cover

/-- and the run leaves it there, with the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v43) = mixedRows (argZ m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩)
    (Cert.KernelIdeal.Value.run_blocks m ρ)

end Cert.Attn
-- ==== Proof.RefVec.lean ====
/-
  THE REFERENCE, cut into the stages its lines compute.
-/
module

public import proofs.«01_k».proof.Proof.Gen.ReferenceIdeal.Run
public import Idealize.ShloMosaic.PureOps.Ideal

@[expose] public section

set_option maxRecDepth 16384

noncomputable section

namespace Cert.AttnRef

open Idealize.ShloMosaic Idealize.ShloMosaic.TcCoe Idealize.SL.Sem
open Cert.ReferenceIdeal Cert.ReferenceIdeal.Gen

/-- Where each chunk of 64 rows begins its window. -/
def startVec : IVec S32x4 32 :=
  (concatenate S32x4 1 [⟨S32x1, ((broadcastInDim S32x1 ![] bcast_S_S32x1 (constantI S_ 32 0#32)) : (⟨S32x1, .i32⟩ : BufTy).Contents (Elt Ideal))⟩, ⟨S32x1, ((broadcastInDim S32x1 ![0] bcast_S32_S32x1_0 (select (cmpi .slt (muli (iotaInDim S32 32 0) (broadcastInDim S32 ![] bcast_S_S32 (constantI S_ 32 64#32))) (broadcastInDim S32 ![] bcast_S_S32 (constantI S_ 32 0#32))) (addi (muli (iotaInDim S32 32 0) (broadcastInDim S32 ![] bcast_S_S32 (constantI S_ 32 64#32))) (broadcastInDim S32 ![] bcast_S_S32 (constantI S_ 32 2560#32))) (muli (iotaInDim S32 32 0) (broadcastInDim S32 ![] bcast_S_S32 (constantI S_ 32 64#32))))) : (⟨S32x1, .i32⟩ : BufTy).Contents (Elt Ideal))⟩, ⟨S32x1, ((broadcastInDim S32x1 ![] bcast_S_S32x1 (constantI S_ 32 0#32)) : (⟨S32x1, .i32⟩ : BufTy).Contents (Elt Ideal))⟩, ⟨S32x1, ((broadcastInDim S32x1 ![] bcast_S_S32x1 (constantI S_ 32 0#32)) : (⟨S32x1, .i32⟩ : BufTy).Contents (Elt Ideal))⟩] concatenates_S32x1_S32x1_S32x1_S32x1_S32x4_d1 : (⟨S32x4, .i32⟩ : BufTy).Contents (Elt Ideal))

/-- The window of values of each chunk. -/
def valWin (z : FVec Ideal S16x2048x1536 .f32) : FVec Ideal S32x16x576x8x64 .f32 :=
  Host.gather gather_S16x2560x8x64_S32x4_S32x16x576x8x64_1234_n_n_n_0123_1_16576864 (pad S16x2560x8x64 ![0, 512, 0, 0] ![0, 0, 0, 0] ![0, 0, 0, 0] (shapeCast _ (extractStridedSlice S16x2048x512 ![0, 0, 1024] z slices_S16x2048x1536_S16x2048x512_0_0_1024) shapeCasts_S16x2048x512_S16x2048x8x64) (sitofp (F := Ideal) .f32 (constantI S_ 32 0#32)) pads_S16x2048x8x64_S16x2560x8x64_000_51200_000_000 h_S_) ((startVec))

/-- The window of keys of each chunk. -/
def keyWin (z : FVec Ideal S16x2048x1536 .f32) : FVec Ideal S32x16x576x8x64 .f32 :=
  Host.gather gather_S16x2560x8x64_S32x4_S32x16x576x8x64_1234_n_n_n_0123_1_16576864 (pad S16x2560x8x64 ![0, 512, 0, 0] ![0, 0, 0, 0] ![0, 0, 0, 0] (shapeCast _ (extractStridedSlice S16x2048x512 ![0, 0, 512] z slices_S16x2048x1536_S16x2048x512_0_0_512) shapeCasts_S16x2048x512_S16x2048x8x64) (sitofp (F := Ideal) .f32 (constantI S_ 32 0#32)) pads_S16x2048x8x64_S16x2560x8x64_000_51200_000_000 h_S_) ((startVec))

/-- The queries of each chunk. -/
def queryVec (z : FVec Ideal S16x2048x1536 .f32) : FVec Ideal S32x16x64x8x64 .f32 :=
  transpose S32x16x64x8x64 [1, 0, 2, 3, 4] (shapeCast _ (shapeCast _ (extractStridedSlice S16x2048x512 ![0, 0, 0] z slices_S16x2048x1536_S16x2048x512_0_0_0) shapeCasts_S16x2048x512_S16x2048x8x64) shapeCasts_S16x2048x8x64_S16x32x64x8x64) transposes_S16x32x64x8x64_S32x16x64x8x64_1_0_2_3_4

/-- The place of each distance among the biases. -/
def farVec : IVec S64x576x1 32 :=
  broadcastInDim S64x576x1 ![0, 1] bcast_S64x576_S64x576x1_0_1 (select (cmpi .slt (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 0#32))) (addi (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))) (broadcastInDim S64x576 ![] bcast_S_S64x576 (constantI S_ 32 320#32))) (addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))))

/-- The biases of a chunk against its window. -/
def biasVec (rb : FVec Ideal S8x320 .f32) : FVec Ideal S8x64x576 .f32 :=
  Host.gather gather_S8x320_S64x576x1_S8x64x576_0_1_n_n_1_2_81 rb (farVec)

/-- The places of a window that lie in the sequence. -/
def liveVec : IVec S32x576 1 :=
  cmpi .sge (broadcastInDim S32x576 ![0, 1] bcast_S1x576_S32x576_0_1 (broadcastInDim S1x576 ![1] bcast_S576_S1x576_1 (iotaInDim S576 32 0))) (broadcastInDim S32x576 ![0, 1] bcast_S32x1_S32x576_0_1 (broadcastInDim S32x1 ![0] bcast_S32_S32x1_0 (muli (subi (broadcastInDim S32 ![] bcast_S_S32 (constantI S_ 32 8#32)) (iotaInDim S32 32 0)) (broadcastInDim S32 ![] bcast_S_S32 (constantI S_ 32 64#32)))))

/-- The scores, nothing outside the sequence. -/
def seenVec (z : FVec Ideal S16x2048x1536 .f32) (rb : FVec Ideal S8x320 .f32) : FVec Ideal S32x16x8x64x576 .f32 :=
  select (broadcastInDim S32x16x8x64x576 ![0, 4] bcast_S32x576_S32x16x8x64x576_0_4 (liveVec)) (addf (mulf (Host.dotGeneral dot_S32x16x64x8x64_S32x16x576x8x64_S32x16x8x64x576_4_4_2_2_013_013 none (queryVec z) (keyWin z)) (broadcastInDim S32x16x8x64x576 ![] bcast_S_S32x16x8x64x576 (constant (F := Ideal) S_ .f32 0x3E000000#32))) (broadcastInDim S32x16x8x64x576 ![0, 1, 2, 3, 4] bcast_S1x1x8x64x576_S32x16x8x64x576_0_1_2_3_4 (broadcastInDim S1x1x8x64x576 ![1, 2, 3, 4] bcast_S1x8x64x576_S1x1x8x64x576_1_2_3_4 (broadcastInDim S1x8x64x576 ![1, 2, 3] bcast_S8x64x576_S1x8x64x576_1_2_3 (biasVec rb))))) (broadcastInDim S32x16x8x64x576 ![1, 2, 3, 4] bcast_S16x8x64x576_S32x16x8x64x576_1_2_3_4 (broadcastInDim S16x8x64x576 ![] bcast_S_S16x8x64x576 (id (constant (F := Ideal) S_ .f32 0xFF800000#32))))

/-- The greatest score of each row. -/
def peakVec (z : FVec Ideal S16x2048x1536 .f32) (rb : FVec Ideal S8x320 .f32) : FVec Ideal S32x16x8x64 .f32 :=
  maximumf (broadcastInDim S32x16x8x64 ![] bcast_S_S32x16x8x64 (constant (F := Ideal) S_ .f32 0xFF800000#32)) (Host.reduce FloatOps.maximumf (seenVec z rb) (constant (F := Ideal) S_ .f32 0xFF800000#32) reducesTo_S32x16x8x64x576_S32x16x8x64_d4 h_S_)

/-- The exponentials of the scores less their greatest. -/
def expsVec (z : FVec Ideal S16x2048x1536 .f32) (rb : FVec Ideal S8x320 .f32) : FVec Ideal S32x16x8x64x576 .f32 :=
  Host.exp (subf (seenVec z rb) (broadcastInDim S32x16x8x64x576 ![0, 1, 2, 3, 4] bcast_S32x16x8x64x1_S32x16x8x64x576_0_1_2_3_4 (broadcastInDim S32x16x8x64x1 ![0, 1, 2, 3] bcast_S32x16x8x64_S32x16x8x64x1_0_1_2_3 (peakVec z rb))))

/-- Their sum along each row. -/
def massVec (z : FVec Ideal S16x2048x1536 .f32) (rb : FVec Ideal S8x320 .f32) : FVec Ideal S32x16x8x64 .f32 :=
  Host.reduceAdd (expsVec z rb) (constant (F := Ideal) S_ .f32 0x00000000#32) reducesTo_S32x16x8x64x576_S32x16x8x64_d4 h_S_

/-- The weights of each row. -/
def weightVec (z : FVec Ideal S16x2048x1536 .f32) (rb : FVec Ideal S8x320 .f32) : FVec Ideal S32x16x8x64x576 .f32 :=
  Host.divf (expsVec z rb) (broadcastInDim S32x16x8x64x576 ![0, 1, 2, 3, 4] bcast_S32x16x8x64x1_S32x16x8x64x576_0_1_2_3_4 (broadcastInDim S32x16x8x64x1 ![0, 1, 2, 3] bcast_S32x16x8x64_S32x16x8x64x1_0_1_2_3 (massVec z rb)))

/-- The weighted means of the values. -/
def meanVec (z : FVec Ideal S16x2048x1536 .f32) (rb : FVec Ideal S8x320 .f32) : FVec Ideal S32x16x8x64x64 .f32 :=
  Host.dotGeneral dot_S32x16x576x8x64_S32x16x8x64x576_S32x16x8x64x64_2_4_4_3_013_012 none (valWin z) (weightVec z rb)

/-- The reference's result. -/
def outVec (z : FVec Ideal S16x2048x1536 .f32) (rb : FVec Ideal S8x320 .f32) : FVec Ideal S32768x512 .bf16 :=
  truncf .bf16 (shapeCast _ (shapeCast _ (transpose S16x32x64x8x64 [1, 0, 2, 3, 4] (transpose S32x16x64x8x64 [0, 1, 4, 2, 3] (meanVec z rb) transposes_S32x16x8x64x64_S32x16x64x8x64_0_1_4_2_3) transposes_S32x16x64x8x64_S16x32x64x8x64_1_0_2_3_4) shapeCasts_S16x32x64x8x64_S16x2048x512) shapeCasts_S16x2048x512_S32768x512) bitsLt_bf16_f32

theorem res_eq (m : (ℓ : Loc nD τ sig) → Buf (Elt Ideal) ℓ) (c : Dev nD) :
    Cert.ReferenceIdeal.Value.res_main_v89 m c
      = outVec (m ((c.tc : Thread nD τ).loc main_arg0)) (m ((c.tc : Thread nD τ).loc main_arg1)) := rfl

end Cert.AttnRef
-- ==== Proof.RefAt.lean ====
/-
  THE REFERENCE'S STAGES, read entry by entry.
-/
module

public import proofs.«01_k».proof.Proof.RefVec
public import Idealize.ShloMosaic.Lib.Pointwise

@[expose] public section

set_option maxRecDepth 16384

noncomputable section

namespace Cert.AttnRef

open Idealize.ShloMosaic Idealize.ShloMosaic.TcCoe Idealize.SL.Sem
open Cert.ReferenceIdeal Cert.ReferenceIdeal.Gen

variable (z : FVec Ideal S16x2048x1536 .f32) (rb : FVec Ideal S8x320 .f32)

/-- A row of the result names its chunk, its sequence and its place in the chunk. -/
theorem out_apply (R : Fin 32768) (C : Fin 512) :
    outVec z rb (ix2 R C) = meanVec z rb (ix5 (⟨R.val / 64 % 32, by omega⟩ : Fin 32) (⟨R.val / 2048, by omega⟩ : Fin 16)
      (⟨C.val / 64, by omega⟩ : Fin 8) (⟨C.val % 64, by omega⟩ : Fin 64) (⟨R.val % 64, by omega⟩ : Fin 64)) := by
  unfold outVec
  pointwise

/-- A chunk's queries are the argument's first 512 columns. -/
theorem query_apply (c : Fin 32) (b : Fin 16) (i : Fin 64) (h : Fin 8) (d : Fin 64) :
    queryVec z (ix5 c b i h d) = z (ix3 b (⟨c.val * 64 + i.val, by omega⟩ : Fin 2048) (⟨h.val * 64 + d.val, by omega⟩ : Fin 1536)) := by
  unfold queryVec
  pointwise

/-- The weighted mean of a row. -/
theorem mean_apply (c : Fin 32) (b : Fin 16) (i : Fin 64) (h : Fin 8) (d : Fin 64) :
    meanVec z rb (ix5 c b h d i) = ∑ x : Fin 576, valWin z (ix5 c b x h d) * weightVec z rb (ix5 c b h i x) := by
  unfold meanVec
  pointwise

/-- A row's scores. -/
theorem seen_apply (c : Fin 32) (b : Fin 16) (i : Fin 64) (h : Fin 8) (k : Fin 576) :
    seenVec z rb (ix5 c b h i k) = Scalar.select
      (IntOp.cmpi .sge (BitVec.ofNat 32 k.val) (IntOp.muli (IntOp.subi 8#32 (BitVec.ofNat 32 c.val)) 64#32))
      ((∑ x : Fin 64, queryVec z (ix5 c b i h x) * keyWin z (ix5 c b k h x)) * Ideal.ofBits .f32 1040187392#32
        + biasVec rb (ix3 h i k)) (Ideal.ofBits .f32 4286578688#32) := by
  unfold seenVec liveVec
  pointwise
  rfl

/-- A maximum along the last of five axes, at any sizes. -/
theorem max_last {n0 n1 n2 n3 n4 : Nat} (y : FVec Ideal ⟨5, ![n0, n1, n2, n3, n4]⟩ .f32) (w : FVec Ideal S_ .f32)
    (hr : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce FloatOps.maximumf y w hr hu (ix4 a b c d)
      = Finset.univ.fold max (w (Shape.Idx.first hu)) fun x : Fin n4 => y (ix5 a b c d x) := by
  pointwise

/-- The greatest of a row's scores. -/
theorem peak_apply (c : Fin 32) (b : Fin 16) (i : Fin 64) (h : Fin 8) :
    peakVec z rb (ix4 c b h i) = max (Ideal.ofBits .f32 4286578688#32)
      (Finset.univ.fold max (Ideal.ofBits .f32 4286578688#32) fun x : Fin 576 => seenVec z rb (ix5 c b h i x)) := by
  unfold peakVec
  generalize seenVec z rb = y
  have e1 := max_last y (constant (F := Ideal) S_ .f32 0xFF800000#32) reducesTo_S32x16x8x64x576_S32x16x8x64_d4 h_S_ c b h i
  have e2 : ∀ w : FVec Ideal S32x16x8x64 .f32,
      maximumf (broadcastInDim S32x16x8x64 ![] bcast_S_S32x16x8x64 (constant (F := Ideal) S_ .f32 0xFF800000#32)) w
        (ix4 c b h i) = max (Ideal.ofBits .f32 4286578688#32) (w (ix4 c b h i)) := fun w => rfl
  rw [e2, e1]
  generalize (fun x : Fin 576 => y (ix5 c b h i x)) = f
  rfl

/-- A row's exponentials. -/
theorem exps_apply (c : Fin 32) (b : Fin 16) (i : Fin 64) (h : Fin 8) (k : Fin 576) :
    expsVec z rb (ix5 c b h i k) = Ideal.exp (seenVec z rb (ix5 c b h i k) - peakVec z rb (ix4 c b h i)) := by
  unfold expsVec
  generalize seenVec z rb = y
  generalize peakVec z rb = w
  pointwise

/-- Their sum. -/
theorem mass_apply (c : Fin 32) (b : Fin 16) (i : Fin 64) (h : Fin 8) :
    massVec z rb (ix4 c b h i) = ∑ x : Fin 576, expsVec z rb (ix5 c b h i x) := by
  unfold massVec
  generalize expsVec z rb = y
  pointwise

/-- A row's weights. -/
theorem weight_apply (c : Fin 32) (b : Fin 16) (i : Fin 64) (h : Fin 8) (k : Fin 576) :
    weightVec z rb (ix5 c b h i k) = Ideal.div (expsVec z rb (ix5 c b h i k)) (massVec z rb (ix4 c b h i)) := by
  unfold weightVec
  generalize expsVec z rb = y
  generalize massVec z rb = w
  pointwise

end Cert.AttnRef
-- ==== Proof.RefWin.lean ====
/-
  THE REFERENCE'S WINDOWS of keys and values and its biases, read entry by entry.
-/
module

public import proofs.«01_k».proof.Proof.RefVec
public import Idealize.ShloMosaic.Lib.Pointwise

@[expose] public section

set_option maxRecDepth 16384

noncomputable section

namespace Cert.AttnRef

open Idealize.ShloMosaic Idealize.ShloMosaic.TcCoe Idealize.SL.Sem
open Cert.ReferenceIdeal Cert.ReferenceIdeal.Gen

variable (z : FVec Ideal S16x2048x1536 .f32) (rb : FVec Ideal S8x320 .f32)

/-- A window of 576 rows of the padded array, from the row its chunk's word names. -/
theorem gather_window (y : FVec Ideal S16x2560x8x64 .f32) (idx : IVec S32x4 32) (c : Fin 32) (b : Fin 16) (k : Fin 576)
    (h : Fin 8) (d : Fin 64) :
    Host.gather gather_S16x2560x8x64_S32x4_S32x16x576x8x64_1234_n_n_n_0123_1_16576864 y idx (ix5 c b k h d)
      = y (ix4 b (⟨min (idx (ix2 c (1 : Fin 4))).toInt.toNat 1984 + k.val, by omega⟩ : Fin 2560) h d) := by
  unfold Host.gather
  congr 1
  funext a
  refine Fin.ext ?_
  match a with
  | ⟨0, _⟩ =>
    show min _ 0 + 0 + b.val = b.val
    omega
  | ⟨1, _⟩ =>
    have hsi : gather_S16x2560x8x64_S32x4_S32x16x576x8x64_1234_n_n_n_0123_1_16576864.siIdx (ix5 c b k h d) ⟨1, by decide⟩
        = ix2 c (1 : Fin 4) := by
      funext b
      refine Fin.ext ?_
      match b with
      | ⟨0, _⟩ => rfl
      | ⟨1, _⟩ => rfl
    show min (idx (gather_S16x2560x8x64_S32x4_S32x16x576x8x64_1234_n_n_n_0123_1_16576864.siIdx (ix5 c b k h d)
      ⟨1, by decide⟩)).toInt.toNat 1984 + 0 + k.val = _
    rw [hsi]
    rfl
  | ⟨2, _⟩ =>
    show min _ 0 + 0 + h.val = h.val
    omega
  | ⟨3, _⟩ =>
    show min _ 0 + 0 + d.val = d.val
    omega

/-- The word of a chunk's first padded row. -/
def startWord (w : BitVec 32) : BitVec 32 :=
  Scalar.select (IntOp.cmpi .slt (IntOp.muli w 64#32) 0#32) (IntOp.addi (IntOp.muli w 64#32) 2560#32) (IntOp.muli w 64#32)

theorem startWord_eq : ∀ c : Fin 32, (startWord (BitVec.ofNat 32 c.val)).toInt.toNat = 64 * c.val := by
  decide +kernel

theorem start_apply (c : Fin 32) : startVec (ix2 c (1 : Fin 4)) = startWord (BitVec.ofNat 32 c.val) := by
  unfold startVec startWord
  pointwise

/-- The padded array, 512 rows of filler before the rows themselves. -/
theorem pad_apply (y : FVec Ideal S16x2048x8x64 .f32) (w : FVec Ideal S_ .f32) (b : Fin 16) (k : Fin 2560) (h : Fin 8)
    (d : Fin 64) (hk : 512 ≤ k.val) :
    pad S16x2560x8x64 ![0, 512, 0, 0] ![0, 0, 0, 0] ![0, 0, 0, 0] y w
        pads_S16x2048x8x64_S16x2560x8x64_000_51200_000_000 h_S_ (ix4 b k h d)
      = y (ix4 b (⟨k.val - 512, by omega⟩ : Fin 2048) h d) := by
  pointwise
  exact dif_pos ⟨hk, by omega⟩

/-- A window's keys, where they lie in the sequence. -/
theorem key_apply (c : Fin 32) (b : Fin 16) (k : Fin 576) (h : Fin 8) (d : Fin 64) (hk : 512 ≤ 64 * c.val + k.val) :
    keyWin z (ix5 c b k h d)
      = z (ix3 b (⟨64 * c.val + k.val - 512, by omega⟩ : Fin 2048) (⟨512 + (h.val * 64 + d.val), by omega⟩ : Fin 1536)) := by
  have hw : min (startVec (ix2 c (1 : Fin 4))).toInt.toNat 1984 + k.val = 64 * c.val + k.val := by
    rw [start_apply, startWord_eq]; omega
  unfold keyWin
  refine (gather_window _ _ c b k h d).trans ?_
  refine (pad_apply _ _ b _ h d (by simp only [hw]; exact hk)).trans ?_
  pointwise
  simp only [hw]

/-- A window's values, where they lie in the sequence. -/
theorem val_apply (c : Fin 32) (b : Fin 16) (k : Fin 576) (h : Fin 8) (d : Fin 64) (hk : 512 ≤ 64 * c.val + k.val) :
    valWin z (ix5 c b k h d)
      = z (ix3 b (⟨64 * c.val + k.val - 512, by omega⟩ : Fin 2048) (⟨1024 + (h.val * 64 + d.val), by omega⟩ : Fin 1536)) := by
  have hw : min (startVec (ix2 c (1 : Fin 4))).toInt.toNat 1984 + k.val = 64 * c.val + k.val := by
    rw [start_apply, startWord_eq]; omega
  unfold valWin
  refine (gather_window _ _ c b k h d).trans ?_
  refine (pad_apply _ _ b _ h d (by simp only [hw]; exact hk)).trans ?_
  pointwise
  simp only [hw]

/-- The biases gathered at the words of the distances. -/
theorem gather_bias (idx : IVec S64x576x1 32) (h : Fin 8) (i : Fin 64) (k : Fin 576) :
    Host.gather gather_S8x320_S64x576x1_S8x64x576_0_1_n_n_1_2_81 rb idx (ix3 h i k)
      = rb (ix2 h ⟨min (idx (ix3 i k (0 : Fin 1))).toInt.toNat 319, by omega⟩) := by
  unfold Host.gather
  congr 1
  funext a
  refine Fin.ext ?_
  match a with
  | ⟨0, _⟩ =>
    show 0 + 0 + h.val = h.val
    omega
  | ⟨1, _⟩ =>
    have hsi : gather_S8x320_S64x576x1_S8x64x576_0_1_n_n_1_2_81.siIdx (ix3 h i k) ⟨0, by decide⟩
        = ix3 i k (0 : Fin 1) := by
      funext b
      refine Fin.ext ?_
      match b with
      | ⟨0, _⟩ => rfl
      | ⟨1, _⟩ => rfl
      | ⟨2, _⟩ => rfl
    show min (idx (gather_S8x320_S64x576x1_S8x64x576_0_1_n_n_1_2_81.siIdx (ix3 h i k) ⟨0, by decide⟩)).toInt.toNat 319
      + 0 + 0 = _
    rw [hsi]
    rfl

/-- The word of a distance, cut to the biases' range and counted from its least. -/
def farWord (w : BitVec 32) : BitVec 32 :=
  let u := IntOp.addi (IntOp.minsi 256#32 (IntOp.maxsi 4294967233#32 w)) 63#32
  Scalar.select (IntOp.cmpi CmpIPredicate.slt u 0#32) (IntOp.addi u 320#32) u

theorem farWord_eq : ∀ u : Fin 640, (farWord (IntOp.subi (BitVec.ofNat 32 u.val) 63#32)).toInt.toNat = min u.val 319 := by
  decide +kernel

/-- A distance's word is that of its excess over the least distance, less 63. -/
theorem far_word (i : Fin 64) (k : Fin 576) :
    IntOp.subi (IntOp.addi (BitVec.ofNat 32 i.val) 512#32) (BitVec.ofNat 32 k.val)
      = IntOp.subi (BitVec.ofNat 32 (i.val + 575 - k.val)) 63#32 := by
  refine BitVec.eq_of_toNat_eq ?_
  simp only [IntOp.subi, IntOp.addi, BitVec.toNat_sub, BitVec.toNat_add, BitVec.toNat_ofNat]
  omega

theorem far_apply (i : Fin 64) (k : Fin 576) :
    farVec (ix3 i k (0 : Fin 1))
      = farWord (IntOp.subi (IntOp.addi (BitVec.ofNat 32 i.val) 512#32) (BitVec.ofNat 32 k.val)) := by
  unfold farVec farWord
  pointwise
  rfl

/-- The bias of a row of a chunk against a place of its window. -/
theorem bias_apply (h : Fin 8) (i : Fin 64) (k : Fin 576) :
    biasVec rb (ix3 h i k) = rb (ix2 h (⟨min (i.val + 575 - k.val) 319, by omega⟩ : Fin 320)) := by
  have hw : min (farVec (ix3 i k (0 : Fin 1))).toInt.toNat 319 = min (i.val + 575 - k.val) 319 := by
    rw [far_apply, far_word, farWord_eq ⟨i.val + 575 - k.val, by omega⟩]
    dsimp only
    omega
  unfold biasVec
  exact (gather_bias rb _ h i k).trans (congrArg rb (congrArg (ix2 h) (Fin.ext hw)))

/-- The bit of a window's place: whether it lies in the sequence. -/
theorem live_word : ∀ (c : Fin 32) (k : Fin 576),
    IntOp.cmpi .sge (BitVec.ofNat 32 k.val) (IntOp.muli (IntOp.subi 8#32 (BitVec.ofNat 32 c.val)) 64#32)
      = if 512 ≤ 64 * c.val + k.val then 1#1 else 0#1 := by
  decide +kernel

end Cert.AttnRef
-- ==== Proof.Softmax.lean ====
/-
  THE MATHEMATICS: a row's weighted mean taken over a window wider than the places it sees is the mean of
  the values at those places, each weighted by its share.
-/
module

public import proofs.«01_k».proof.Proof.RowMix

@[expose] public section

noncomputable section

namespace Cert.Attn

open Idealize.ShloMosaic

/-- A sum times a nonnegative real is the sum of the products. -/
theorem sum_mul_real {ι : Type} [Fintype ι] (f : ι → EReal) (a : ℝ) (ha : 0 ≤ a) :
    (∑ x, f x) * (a : EReal) = ∑ x, f x * (a : EReal) := by
  classical
  have h0 : (0 : EReal) ≤ (a : EReal) := EReal.coe_nonneg.2 ha
  have key : ∀ S : Finset ι, (∑ x ∈ S, f x) * (a : EReal) = ∑ x ∈ S, f x * (a : EReal) := by
    intro S
    induction S using Finset.induction_on with
    | empty => simp
    | insert x S hx ih =>
      rw [Finset.sum_insert hx, Finset.sum_insert hx,
        EReal.right_distrib_of_nonneg_of_ne_top h0 (EReal.coe_ne_top a), ih]
  exact key Finset.univ

/-- A sum of real numbers, read as extended reals. -/
theorem sum_coe {ι : Type} [Fintype ι] (a : ι → ℝ) : (∑ x, (a x : EReal)) = ((∑ x, a x : ℝ) : EReal) := by
  classical
  have key : ∀ S : Finset ι, (∑ x ∈ S, (a x : EReal)) = ((∑ x ∈ S, a x : ℝ) : EReal) := by
    intro S
    induction S using Finset.induction_on with
    | empty => simp
    | insert x S hx ih => rw [Finset.sum_insert hx, Finset.sum_insert hx, ih, EReal.coe_add]
  exact key Finset.univ

/-- The row's greatest score is the greatest of its scores' supremum. -/
theorem rowMax_eq (s : Fin 3 → Fin 256 → EReal) :
    rowMax s = Finset.univ.sup fun pn : Fin 3 × Fin 256 => s pn.1 pn.2 := by
  have e : rowMax s = Finset.univ.sup fun n : Fin 256 => max (max (s 0 n) (s 1 n)) (s 2 n) := rfl
  rw [e]
  apply le_antisymm
  · refine Finset.sup_le fun n _ => ?_
    refine max_le (max_le ?_ ?_) ?_
    · exact Finset.le_sup (f := fun pn : Fin 3 × Fin 256 => s pn.1 pn.2) (Finset.mem_univ (0, n))
    · exact Finset.le_sup (f := fun pn : Fin 3 × Fin 256 => s pn.1 pn.2) (Finset.mem_univ (1, n))
    · exact Finset.le_sup (f := fun pn : Fin 3 × Fin 256 => s pn.1 pn.2) (Finset.mem_univ (2, n))
  · refine Finset.sup_le fun pn _ => ?_
    obtain ⟨p, n⟩ := pn
    refine le_trans ?_ (Finset.le_sup (f := fun n : Fin 256 => max (max (s 0 n) (s 1 n)) (s 2 n)) (Finset.mem_univ n))
    match p with
    | ⟨0, _⟩ => exact le_trans (le_max_left _ _) (le_max_left _ _)
    | ⟨1, _⟩ => exact le_trans (le_max_right _ _) (le_max_left _ _)
    | ⟨2, _⟩ => exact le_max_right _ _

section Mean

variable (s v : Fin 3 → Fin 256 → EReal) (f g : Fin 576 → EReal) (e : Fin 576 → Fin 3 × Fin 256)

/-- A sum over the window whose terms vanish off the places seen is the sum over those places. -/
theorem sum_window (he : Function.Injective e) (F : Fin 3 × Fin 256 → EReal)
    (hoff : ∀ pn, (∀ x, e x ≠ pn) → F pn = 0) : (∑ p, ∑ n, F (p, n)) = ∑ x, F (e x) := by
  classical
  rw [← Fintype.sum_prod_type' (fun p n => F (p, n))]
  refine (Finset.sum_of_injOn e he.injOn (fun _ _ => Finset.mem_coe.2 (Finset.mem_univ _)) ?_ fun _ _ => rfl).symm
  intro pn _ hpn
  refine hoff pn fun x hx => hpn ?_
  exact ⟨x, Finset.mem_coe.2 (Finset.mem_univ x), hx⟩

/-- The mean over the window is the mean over the places seen. -/
theorem rowMix_eq (he : Function.Injective e) (hs : ∀ x, s (e x).1 (e x).2 = f x)
    (hoff : ∀ pn : Fin 3 × Fin 256, (∀ x, e x ≠ pn) → s pn.1 pn.2 = ⊥)
    (hv : ∀ x, f x ≠ ⊥ → v (e x).1 (e x).2 = g x) (htop : ∀ x, f x ≠ ⊤) (hbot : ∃ x, f x ≠ ⊥)
    (M : EReal) (hM : M = Finset.univ.sup f) :
    rowMix s v = ∑ x, g x * Ideal.div (Ideal.exp (f x - M)) (∑ y, Ideal.exp (f y - M)) := by
  have hmax : rowMax s = M := by
    rw [rowMax_eq, hM]
    apply le_antisymm
    · refine Finset.sup_le fun pn _ => ?_
      by_cases h : ∃ x, e x = pn
      · obtain ⟨x, rfl⟩ := h
        rw [hs]; exact Finset.le_sup (Finset.mem_univ x)
      · rw [hoff pn fun x hx => h ⟨x, hx⟩]; exact bot_le
    · refine Finset.sup_le fun x _ => ?_
      rw [← hs]
      exact Finset.le_sup (f := fun pn : Fin 3 × Fin 256 => s pn.1 pn.2) (Finset.mem_univ (e x))
  have hMt : M ≠ ⊤ := by
    rw [hM]
    refine ne_of_lt ((Finset.sup_lt_iff bot_lt_top).2 fun x _ => lt_top_iff_ne_top.2 (htop x))
  have hMb : M ≠ ⊥ := by
    obtain ⟨x, hx⟩ := hbot
    rw [hM]
    exact fun h => hx (le_bot_iff.1 (h ▸ Finset.le_sup (f := f) (Finset.mem_univ x)))
  lift M to ℝ using ⟨hMt, hMb⟩
  have hw : ∀ x, ∃ a : ℝ, 0 ≤ a ∧ (f x ≠ ⊥ → 0 < a) ∧ (f x = ⊥ → a = 0) ∧ Ideal.exp (f x - (M : EReal)) = (a : EReal) := by
    intro x
    by_cases hx : f x = ⊥
    · refine ⟨0, le_refl _, fun h => absurd hx h, fun _ => rfl, ?_⟩
      rw [hx, EReal.bot_sub, Ideal.exp_bot]; rfl
    · obtain ⟨y, hy⟩ : ∃ y : ℝ, f x = (y : EReal) := ⟨(f x).toReal, (EReal.coe_toReal (htop x) hx).symm⟩
      refine ⟨Real.exp (y - M), (Real.exp_pos _).le, fun _ => Real.exp_pos _, fun h => absurd h hx, ?_⟩
      rw [hy, ← EReal.coe_sub, Ideal.exp_coe]
  choose a ha0 hapos hazero haexp using hw
  have hL : (∑ y, Ideal.exp (f y - (M : EReal))) = ((∑ y, a y : ℝ) : EReal) := by
    rw [← sum_coe]; exact Finset.sum_congr rfl fun y _ => haexp y
  have hLpos : 0 < ∑ y, a y := by
    obtain ⟨x, hx⟩ := hbot
    exact Finset.sum_pos' (fun y _ => ha0 y) ⟨x, Finset.mem_univ x, hapos x hx⟩
  have hoff' : ∀ pn : Fin 3 × Fin 256, (∀ x, e x ≠ pn) → Ideal.exp (s pn.1 pn.2 - (M : EReal)) = 0 := fun pn h => by
    rw [hoff pn h, EReal.bot_sub, Ideal.exp_bot]
  have hden : (∑ p, ∑ n, Ideal.exp (s p n - (M : EReal))) = ((∑ y, a y : ℝ) : EReal) := by
    rw [sum_window e he (fun pn => Ideal.exp (s pn.1 pn.2 - (M : EReal))) hoff', ← hL]
    exact Finset.sum_congr rfl fun x _ => by rw [hs]
  have hnum : (∑ p, ∑ n, Ideal.exp (s p n - (M : EReal)) * v p n) = ∑ x, g x * (a x : EReal) := by
    rw [sum_window e he (fun pn => Ideal.exp (s pn.1 pn.2 - (M : EReal)) * v pn.1 pn.2)
      fun pn h => by rw [hoff' pn h, zero_mul]]
    refine Finset.sum_congr rfl fun x _ => ?_
    rw [hs, haexp]
    by_cases hx : f x = ⊥
    · rw [hazero x hx, EReal.coe_zero, zero_mul, mul_zero]
    · rw [hv x hx, mul_comm]
  unfold rowMix
  rw [hmax, hden, hnum, hL, Ideal.div_coe hLpos.ne', sum_mul_real _ _ (by positivity)]
  refine Finset.sum_congr rfl fun x _ => ?_
  rw [Ideal.div_coe hLpos.ne', haexp, mul_assoc]

end Mean

end Cert.Attn
-- ==== Proof.Equation.lean ====
/-
  THE EQUATION: an entry of the kernel's result is the reference's, for finite queries, keys and biases.
-/
module

public import proofs.«01_k».proof.Proof.Array
public import proofs.«01_k».proof.Proof.RefAt
public import proofs.«01_k».proof.Proof.RefWin
public import proofs.«01_k».proof.Proof.Softmax

@[expose] public section

set_option maxRecDepth 16384

noncomputable section

namespace Cert.Attn

open Idealize.ShloMosaic
open Cert.AttnRef (outVec meanVec weightVec expsVec massVec peakVec seenVec queryVec keyWin valWin biasVec)

abbrev Rows : Type := FVec Ideal (⟨3, ![16, 2048, 1536]⟩ : Shape) .f32
abbrev Biases : Type := FVec Ideal (⟨2, ![8, 320]⟩ : Shape) .f32

variable (z : Rows) (rb : Biases)

/-- The queries and the keys, and the biases, are real numbers. -/
structure FiniteArgs : Prop where
  rows : ∀ (b : Fin 16) (k : Fin 2048) (C : Fin 1536), C.val < 1024 → ∃ a : ℝ, z (ix3 b k C) = (a : EReal)
  biases : ∀ (h : Fin 8) (u : Fin 320), ∃ a : ℝ, rb (ix2 h u) = (a : EReal)

/-- Place `x` of a row's 576 in the window of 768 its block stages. -/
def inWindow (r : Fin 256) (x : Fin 576) : Fin 3 × Fin 256 :=
  (⟨(64 * (r.val / 64) + x.val) / 256, by omega⟩, ⟨(64 * (r.val / 64) + x.val) % 256, by omega⟩)

theorem inWindow_injective (r : Fin 256) : Function.Injective (inWindow r) := fun x y h => by
  have h1 : (64 * (r.val / 64) + x.val) / 256 = (64 * (r.val / 64) + y.val) / 256 := congrArg (fun a => a.1.val) h
  have h2 : (64 * (r.val / 64) + x.val) % 256 = (64 * (r.val / 64) + y.val) % 256 := congrArg (fun a => a.2.val) h
  exact Fin.ext (by omega)

/-- A place of the window that is none of the 576 is one the row does not see. -/
theorem off_band (r : Fin 256) (pn : Fin 3 × Fin 256) (h : ∀ x, inWindow r x ≠ pn) :
    ¬ inBand r.val (key pn.1 pn.2).val := by
  obtain ⟨p, n⟩ := pn
  rintro ⟨h1, h2⟩
  have hk : (key p n).val = 256 * p.val + n.val := rfl
  rw [hk] at h1 h2
  refine h ⟨256 * p.val + n.val - 64 * (r.val / 64), by omega⟩ (Prod.ext (Fin.ext ?_) (Fin.ext ?_))
  · show (64 * (r.val / 64) + (256 * p.val + n.val - 64 * (r.val / 64))) / 256 = p.val
    omega
  · show (64 * (r.val / 64) + (256 * p.val + n.val - 64 * (r.val / 64))) % 256 = n.val
    omega

/-- The chunk of 64 a row of block `j` lies in, and its place there. -/
def chunk (j : Fin 8) (r : Fin 256) : Fin 32 := ⟨4 * j.val + r.val / 64, by omega⟩
def inChunk (r : Fin 256) : Fin 64 := ⟨r.val % 64, by omega⟩

/-- The distance the table holds is the one the reference counts. -/
theorem dist_eq (r : Fin 256) (x : Fin 576) :
    min (dist ((r.val * 1022 + (64 * (r.val / 64) + x.val)) % 1023)) 319 = min (r.val % 64 + 575 - x.val) 319 := by
  have h1 : (r.val * 1022 + (64 * (r.val / 64) + x.val)) % 1023
      = if r.val ≤ 64 * (r.val / 64) + x.val then 64 * (r.val / 64) + x.val - r.val
        else 64 * (r.val / 64) + x.val + 1023 - r.val := by
    split <;> omega
  rw [h1]
  unfold dist
  split <;> split <;> omega

/-- The table's bias of a place the row sees. -/
theorem bias_seen (h : Fin 8) (r : Fin 256) (x : Fin 576) :
    bias rb h r (key (inWindow r x).1 (inWindow r x).2) = biasVec rb (ix3 h (inChunk r) x) := by
  have hk : (key (inWindow r x).1 (inWindow r x).2).val = 64 * (r.val / 64) + x.val := by
    show 256 * ((64 * (r.val / 64) + x.val) / 256) + (64 * (r.val / 64) + x.val) % 256 = _
    omega
  have hb : inBand r.val (key (inWindow r x).1 (inWindow r x).2).val := by
    rw [hk]
    constructor <;> omega
  unfold bias
  rw [if_pos hb, Cert.AttnRef.bias_apply]
  refine congrArg rb (congrArg (ix2 h) (Fin.ext ?_))
  show min (dist ((r.val * 1022 + (key (inWindow r x).1 (inWindow r x).2).val) % 1023)) 319 = _
  rw [hk]
  exact dist_eq r x

/-- A score, the reference's way. -/
def scoreOf (b : Fin 16) (j : Fin 8) (r : Fin 256) (h : Fin 8) (x : Fin 576) : EReal :=
  seenVec z rb (ix5 (chunk j r) b h (inChunk r) x)

/-- The window's place lies in the sequence when its part does. -/
theorem live_iff (j : Fin 8) (r : Fin 256) (x : Fin 576) :
    512 ≤ 64 * (chunk j r).val + x.val ↔ 2 ≤ j.val + (inWindow r x).1.val := by
  show 512 ≤ 64 * (4 * j.val + r.val / 64) + x.val ↔ 2 ≤ j.val + (64 * (r.val / 64) + x.val) / 256
  omega

theorem eighth_f32 : Ideal.ofBits .f32 1040187392#32 = scale := by
  unfold scale
  simp [Ideal.ofBits, Ideal.ieee]
  rw [← EReal.coe_mul]
  norm_num

/-- The row of the sequence a place of the window is. -/
theorem place_eq (j : Fin 8) (r : Fin 256) (x : Fin 576) (hx : 512 ≤ 64 * (chunk j r).val + x.val)
    (hlt : 64 * (chunk j r).val + x.val - 512 < 2048) :
    place j (inWindow r x).1 (inWindow r x).2 = ⟨64 * (chunk j r).val + x.val - 512, hlt⟩ := by
  refine Fin.ext ?_
  have hx' : 512 ≤ 64 * (4 * j.val + r.val / 64) + x.val := hx
  show 256 * (j.val + (64 * (r.val / 64) + x.val) / 256 - 2) + (64 * (r.val / 64) + x.val) % 256
    = 64 * (4 * j.val + r.val / 64) + x.val - 512
  omega

/-- A score outside the sequence is nothing, -/
theorem scoreOf_dead (b : Fin 16) (j : Fin 8) (r : Fin 256) (h : Fin 8) (x : Fin 576)
    (hx : ¬ 512 ≤ 64 * (chunk j r).val + x.val) : scoreOf z rb b j r h x = ⊥ := by
  unfold scoreOf
  rw [Cert.AttnRef.seen_apply, Cert.AttnRef.live_word, if_neg hx, ofBits_bot]
  exact if_neg (by decide)

/-- and one inside it is the scaled product of query and key, plus the bias. -/
theorem scoreOf_live (b : Fin 16) (j : Fin 8) (r : Fin 256) (h : Fin 8) (x : Fin 576)
    (hx : 512 ≤ 64 * (chunk j r).val + x.val) :
    scoreOf z rb b j r h x
      = (∑ e : Fin 64, z (ix3 b (⟨256 * j.val + r.val, by omega⟩ : Fin 2048) (third 0 h e))
          * z (ix3 b (place j (inWindow r x).1 (inWindow r x).2) (third 1 h e))) * scale
        + biasVec rb (ix3 h (inChunk r) x) := by
  unfold scoreOf
  rw [Cert.AttnRef.seen_apply, Cert.AttnRef.live_word, if_pos hx, eighth_f32]
  refine (if_pos rfl).trans (congrArg (fun y => y * scale + biasVec rb (ix3 h (inChunk r) x)) ?_)
  refine Finset.sum_congr rfl fun e _ => congrArg₂ (· * ·) ?_ ?_
  · rw [Cert.AttnRef.query_apply]
    refine congrArg z (funext fun a => Fin.ext ?_)
    match a with
    | ⟨0, _⟩ => rfl
    | ⟨1, _⟩ => show (4 * j.val + r.val / 64) * 64 + r.val % 64 = 256 * j.val + r.val; omega
    | ⟨2, _⟩ => show h.val * 64 + e.val = 512 * 0 + (64 * h.val + e.val); omega
  · rw [Cert.AttnRef.key_apply z _ b x h e hx, place_eq j r x hx (by omega)]
    refine congrArg z (funext fun a => Fin.ext ?_)
    match a with
    | ⟨0, _⟩ => rfl
    | ⟨1, _⟩ => rfl
    | ⟨2, _⟩ => show 512 + (h.val * 64 + e.val) = 512 * 1 + (64 * h.val + e.val); omega

/-- The kernel's score of a place. -/
def pairOf (b : Fin 16) (j : Fin 8) (r : Fin 256) (h : Fin 8) : Fin 3 → Fin 256 → EReal :=
  pairScore j (fun e => z (ix3 b (⟨256 * j.val + r.val, by omega⟩ : Fin 2048) (third 0 h e)) * scale)
    (fun p n e => z (ix3 b (place j p n) (third 1 h e))) (fun p n => bias rb h r (key p n))

/-- Scaling the queries scales the scores. -/
theorem sum_scale (f g : Fin 64 → EReal) : (∑ e, f e * scale * g e) = (∑ e, f e * g e) * scale := by
  unfold scale
  rw [sum_mul_real _ _ (by norm_num)]
  exact Finset.sum_congr rfl fun e _ => by rw [mul_right_comm]

/-- On the places a row sees both scores agree, -/
theorem pairOf_seen (b : Fin 16) (j : Fin 8) (r : Fin 256) (h : Fin 8) (x : Fin 576) :
    pairOf z rb b j r h (inWindow r x).1 (inWindow r x).2 = scoreOf z rb b j r h x := by
  unfold pairOf pairScore
  by_cases hx : 512 ≤ 64 * (chunk j r).val + x.val
  · rw [if_pos ((live_iff j r x).1 hx), scoreOf_live z rb b j r h x hx, sum_scale]
    exact congrArg (_ + ·) (bias_seen rb h r x)
  · rw [if_neg (fun h' => hx ((live_iff j r x).2 h')), scoreOf_dead z rb b j r h x hx]

/-- and off them the kernel's is nothing. -/
theorem pairOf_off (b : Fin 16) (j : Fin 8) (r : Fin 256) (h : Fin 8) (pn : Fin 3 × Fin 256)
    (ho : ∀ x, inWindow r x ≠ pn) : pairOf z rb b j r h pn.1 pn.2 = ⊥ := by
  unfold pairOf pairScore
  split
  · have hb : bias rb h r (key pn.1 pn.2) = ⊥ := by
      unfold bias
      rw [if_neg (off_band r pn ho), ofBits_bot]
    show _ + bias rb h r (key pn.1 pn.2) = ⊥
    rw [hb, EReal.add_bot]
  · rfl

variable {z rb}

/-- A score inside the sequence is a real number. -/
theorem scoreOf_real (hr : FiniteArgs z rb) (b : Fin 16) (j : Fin 8) (r : Fin 256) (h : Fin 8) (x : Fin 576)
    (hx : 512 ≤ 64 * (chunk j r).val + x.val) : ∃ a : ℝ, scoreOf z rb b j r h x = (a : EReal) := by
  rw [scoreOf_live z rb b j r h x hx, Cert.AttnRef.bias_apply]
  obtain ⟨t, ht⟩ := hr.biases h (⟨min ((inChunk r).val + 575 - x.val) 319, by omega⟩ : Fin 320)
  have hq := fun e : Fin 64 => hr.rows b (⟨256 * j.val + r.val, by omega⟩ : Fin 2048) (third 0 h e)
    (by show 512 * 0 + (64 * h.val + e.val) < 1024; omega)
  have hk := fun e : Fin 64 => hr.rows b (place j (inWindow r x).1 (inWindow r x).2) (third 1 h e)
    (by show 512 * 1 + (64 * h.val + e.val) < 1024; omega)
  choose q hq using hq
  choose k hk using hk
  refine ⟨(∑ e, q e * k e) * (1 / 8) + t, ?_⟩
  rw [ht, EReal.coe_add, EReal.coe_mul, ← sum_coe]
  unfold scale
  refine congrArg (fun y => y * (((1 : ℝ) / 8 : ℝ) : EReal) + (t : EReal)) (Finset.sum_congr rfl fun e _ => ?_)
  rw [hq, hk, EReal.coe_mul]

theorem scoreOf_ne_top (hr : FiniteArgs z rb) (b : Fin 16) (j : Fin 8) (r : Fin 256) (h : Fin 8) (x : Fin 576) :
    scoreOf z rb b j r h x ≠ ⊤ := by
  by_cases hx : 512 ≤ 64 * (chunk j r).val + x.val
  · obtain ⟨a, ha⟩ := scoreOf_real hr b j r h x hx
    rw [ha]; exact EReal.coe_ne_top a
  · rw [scoreOf_dead z rb b j r h x hx]; exact bot_ne_top

/-- A row always sees itself. -/
theorem scoreOf_some (hr : FiniteArgs z rb) (b : Fin 16) (j : Fin 8) (r : Fin 256) (h : Fin 8) :
    ∃ x, scoreOf z rb b j r h x ≠ ⊥ := by
  refine ⟨⟨512, by omega⟩, ?_⟩
  obtain ⟨a, ha⟩ := scoreOf_real hr b j r h ⟨512, by omega⟩ (by show 512 ≤ _ + 512; omega)
  rw [ha]; exact EReal.coe_ne_bot a

/-- One entry: the kernel's mean is the reference's. -/
theorem mixed_eq (hr : FiniteArgs z rb) (b : Fin 16) (j : Fin 8) (r : Fin 256) (h : Fin 8) (d : Fin 64) :
    mixed z rb b j r h d = meanVec z rb (ix5 (chunk j r) b h d (inChunk r)) := by
  have hpeak : peakVec z rb (ix4 (chunk j r) b h (inChunk r)) = Finset.univ.sup (scoreOf z rb b j r h) := by
    rw [Cert.AttnRef.peak_apply, ofBits_bot]
    exact max_eq_right bot_le
  have key := rowMix_eq (pairOf z rb b j r h) (fun p n => z (ix3 b (place j p n) (third 2 h d)))
    (scoreOf z rb b j r h) (fun x => valWin z (ix5 (chunk j r) b x h d)) (inWindow r) (inWindow_injective r)
    (pairOf_seen z rb b j r h) (pairOf_off z rb b j r h) ?_ (scoreOf_ne_top hr b j r h) (scoreOf_some hr b j r h)
    (peakVec z rb (ix4 (chunk j r) b h (inChunk r))) hpeak
  · refine Eq.trans (show mixed z rb b j r h d = _ from key) ?_
    rw [Cert.AttnRef.mean_apply]
    refine Finset.sum_congr rfl fun x _ => congrArg (valWin z (ix5 (chunk j r) b x h d) * ·) ?_
    rw [Cert.AttnRef.weight_apply, Cert.AttnRef.exps_apply, Cert.AttnRef.mass_apply]
    refine congrArg (Ideal.div _) (Finset.sum_congr rfl fun y _ => ?_)
    rw [Cert.AttnRef.exps_apply]
    rfl
  · intro x hx
    by_cases hl : 512 ≤ 64 * (chunk j r).val + x.val
    · rw [Cert.AttnRef.val_apply z _ b x h d hl, place_eq j r x hl (by omega)]
      refine congrArg z (funext fun a => Fin.ext ?_)
      match a with
      | ⟨0, _⟩ => rfl
      | ⟨1, _⟩ => rfl
      | ⟨2, _⟩ => show 512 * 2 + (64 * h.val + d.val) = 1024 + (h.val * 64 + d.val); omega
    · exact absurd (scoreOf_dead z rb b j r h x hl) hx

/-- The whole result. -/
theorem rows_eq (hr : FiniteArgs z rb) : mixedRows z rb = outVec z rb := by
  funext i
  obtain ⟨R, hR⟩ : ∃ R : Fin 32768, R.val = (i 0).val := ⟨⟨(i 0).val, (i 0).isLt⟩, rfl⟩
  obtain ⟨C, hC⟩ : ∃ C : Fin 512, C.val = (i 1).val := ⟨⟨(i 1).val, (i 1).isLt⟩, rfl⟩
  have hi : i = ix2 R C := funext fun a => Fin.ext (match a with | ⟨0, _⟩ => hR.symm | ⟨1, _⟩ => hC.symm)
  subst hi
  rw [Cert.AttnRef.out_apply]
  refine (mixed_eq hr _ _ _ _ _).trans (congrArg (meanVec z rb) (funext fun a => Fin.ext ?_))
  match a with
  | ⟨0, _⟩ => show 4 * (R.val % 2048 / 256) + R.val % 256 / 64 = R.val / 64 % 32; omega
  | ⟨1, _⟩ => rfl
  | ⟨2, _⟩ => rfl
  | ⟨3, _⟩ => rfl
  | ⟨4, _⟩ => show R.val % 256 % 64 = R.val % 64; omega

end Cert.Attn
-- ==== Proof.Finite.lean ====
/-
  THE PRECONDITION, read: queries, keys and biases are real numbers.
-/
module

public import proofs.«01_k».proof.Pre_finite
public import proofs.«01_k».proof.Proof.Equation
public import Idealize.ShloMosaic.Lib.Pointwise

@[expose] public section

set_option maxRecDepth 16384

noncomputable section

namespace Cert.Attn

open Idealize.ShloMosaic

theorem preFacts : Cert.Pre_finite.Facts where
  slices_S16x2048x1536_S16x2048x1024_0_0_0 := by decide
  bcast_S_S16x2048x1024 := by decide
  reducesTo_S16x2048x1024_S_d0_1_2 := by decide
  h_S_ := by decide
  bcast_S_S8x320 := by decide
  reducesTo_S8x320_S_d0_1 := by decide

theorem and_bits : ∀ a b : BitVec 1, IntOp.andi a b = 1#1 → a = 1#1 ∧ b = 1#1 := by decide

/-- A conjunction that comes out true has every member true. -/
theorem fold_and {ι : Type} (f : ι → BitVec 1) : ∀ (l : List ι) (a : BitVec 1),
    l.foldl (fun r n => IntOp.andi r (f n)) a = 1#1 → a = 1#1 ∧ ∀ n ∈ l, f n = 1#1
  | [], a, h => ⟨h, fun _ hn => absurd hn List.not_mem_nil⟩
  | x :: l, a, h => by
    obtain ⟨h1, h2⟩ := fold_and f l (IntOp.andi a (f x)) h
    obtain ⟨h3, h4⟩ := and_bits _ _ h1
    refine ⟨h3, fun n hn => ?_⟩
    rcases List.mem_cons.1 hn with rfl | hn
    · exact h4
    · exact h2 n hn

/-- A reduction by conjunction to one bit that comes out true has every element true. -/
theorem reduce_and {s : Shape} {axes : List (Fin s.rank)} (x : IVec s 1) (v : IVec Cert.Pre_finite.S_ 1)
    (hr : s.ReducesTo axes Cert.Pre_finite.S_) (hu : 0 < Cert.Pre_finite.S_.numel)
    (h : Host.reduce IntOp.andi x v hr hu ix0 = 1#1) (i : s.Idx) : x i = 1#1 := by
  have h' := (fold_and _ _ _ h).2 (s.rowMajor i) ?_
  · simpa using h'
  · refine List.mem_filter.2 ⟨List.mem_finRange _, decide_eq_true ?_⟩
    funext a
    exact a.elim0

theorem top_word : Ideal.ofBits .f32 0x7F800000#32 = ⊤ := by
  simp [Ideal.ofBits, Ideal.ieee]

/-- A number of magnitude below infinity is real. -/
theorem real_of_lt (x : EReal)
    (h : Ideal.cmp .olt (max x (-x)) (Ideal.ofBits .f32 0x7F800000#32) = 1#1) :
    ∃ a : ℝ, x = (a : EReal) := by
  rw [top_word] at h
  induction x using EReal.rec with
  | bot => simp [Ideal.cmp] at h
  | top => simp [Ideal.cmp] at h
  | coe a => exact ⟨a, rfl⟩

/-- The third coordinate of the first two thirds is read where it lies. -/
theorem slice_at (z : Rows) (hs) (b : Fin 16) (k : Fin 2048) (C : Fin 1536) (hC : C.val < 1024) :
    extractStridedSlice (s := Cert.Pre_finite.S16x2048x1536) Cert.Pre_finite.S16x2048x1024 ![0, 0, 0] z hs
      (ix3 b k (⟨C.val, hC⟩ : Fin 1024)) = z (ix3 b k C) := by
  refine congrArg z (funext fun a => Fin.ext ?_)
  match a with
  | ⟨0, _⟩ => exact Nat.zero_add _
  | ⟨1, _⟩ => exact Nat.zero_add _
  | ⟨2, _⟩ => exact Nat.zero_add _

theorem finiteArgs [Cert.Pre_finite.Facts] (z : Rows) (rb : Biases)
    (h : Cert.Pre_finite.fn (F := Ideal) z rb = fun _ => 1#1) : FiniteArgs z rb := by
  have h0 := congrFun h ix0
  unfold Cert.Pre_finite.fn at h0
  obtain ⟨h1, h2⟩ := and_bits _ _ h0
  refine ⟨fun b k C hC => ?_, fun h u => ?_⟩
  · have h3 := reduce_and _ _ _ _ h1 (ix3 b k (⟨C.val, hC⟩ : Fin 1024))
    rw [← slice_at z Cert.Pre_finite.Facts.slices_S16x2048x1536_S16x2048x1024_0_0_0 b k C hC]
    exact real_of_lt _ h3
  · have h3 := reduce_and _ _ _ _ h2 (ix2 h u)
    exact real_of_lt _ h3

end Cert.Attn
-- ==== Proof.Feed.lean ====
/-
  THE CHOSEN EXPERTS, as one function of the rows, the weights and the tables: each tile of 512 rows goes through the
  gated feed-forward of its tile's expert, and an unused tile's rows are zero.
-/
module

public import Idealize.ShloMosaic.Lib.Pointwise
public import Idealize.ShloMosaic.PureOps.Ideal

@[expose] public section

noncomputable section

namespace Cert.Feed

open Idealize.ShloMosaic

abbrev RowsS : Shape := ⟨2, ![81920, 1024]⟩
abbrev InS : Shape := ⟨5, ![2, 4, 8, 1024, 256]⟩
abbrev BackS : Shape := ⟨5, ![2, 4, 8, 256, 1024]⟩
abbrev TileS : Shape := ⟨1, ![160]⟩
abbrev OutS : Shape := ⟨2, ![655360, 128]⟩

/-- A row times a matrix's column. -/
def times (x : Fin 1024 → EReal) (w : Fin 1024 → Fin 256 → EReal) (f : Fin 256) : EReal := ∑ d : Fin 1024, x d * w d f

/-- The hidden value of a row: the gated product. -/
def hidden (x : Fin 1024 → EReal) (w1 w3 : Fin 1024 → Fin 256 → EReal) (f : Fin 256) : EReal :=
  times x w1 f * Ideal.logistic (times x w1 f) * times x w3 f

/-- One entry of a row's feed-forward. -/
def ffn (x : Fin 1024 → EReal) (w1 w3 : Fin 1024 → Fin 256 → EReal) (w2 : Fin 256 → EReal) : EReal :=
  ∑ f : Fin 256, hidden x w1 w3 f * w2 f

/-- The group and the place in it of a tile's expert. -/
def groupOf (w : BitVec 32) : Fin 4 := ⟨w.toNat / 8 % 4, by omega⟩
def memberOf (w : BitVec 32) : Fin 8 := ⟨w.toNat % 8, by omega⟩

/-- Entry `d` of row `T`. -/
def entry (x : FVec Ideal RowsS .f32) (a1 a3 : FVec Ideal InS .f32) (a2 : FVec Ideal BackS .f32) (te tv : IVec TileS 32)
    (T : Fin 81920) (d : Fin 1024) : EReal :=
  if tv (ix1 (⟨T.val / 512, by omega⟩ : Fin 160)) = 1#32 then
    ffn (fun k => x (ix2 T k))
      (fun k f => a1 (ix5 (1 : Fin 2) (groupOf (te (ix1 (⟨T.val / 512, by omega⟩ : Fin 160)))) (memberOf (te (ix1 (⟨T.val / 512, by omega⟩ : Fin 160)))) k f))
      (fun k f => a3 (ix5 (1 : Fin 2) (groupOf (te (ix1 (⟨T.val / 512, by omega⟩ : Fin 160)))) (memberOf (te (ix1 (⟨T.val / 512, by omega⟩ : Fin 160)))) k f))
      (fun f => a2 (ix5 (1 : Fin 2) (groupOf (te (ix1 (⟨T.val / 512, by omega⟩ : Fin 160)))) (memberOf (te (ix1 (⟨T.val / 512, by omega⟩ : Fin 160)))) f d))
  else 0

/-- The whole result, each row of 1024 laid out as eight of 128. -/
def fedRows (x : FVec Ideal RowsS .f32) (a1 a3 : FVec Ideal InS .f32) (a2 : FVec Ideal BackS .f32) (te tv : IVec TileS 32) :
    FVec Ideal OutS .f32 :=
  fun i => entry x a1 a3 a2 te tv ⟨(i 0).val / 8, by have h : (i 0).val < 655360 := (i 0).isLt; omega⟩
    ⟨128 * ((i 0).val % 8) + (i 1).val, by have h : (i 1).val < 128 := (i 1).isLt; omega⟩

end Cert.Feed

end
-- ==== Proof.Layout.lean ====
/-
  WHERE THE ROWS OF AN EXPERT LIE. The rows are put in the order of their experts, each expert's share rounded up to whole
  tiles of 512; the ends of the shares tell which expert a row, or a tile, belongs to, and whether it is in use.
-/
module

public import Idealize.ShloMosaic.Lib.Pointwise
public import Idealize.ShloMosaic.Lib.Routing.OpsOne
public import proofs.«01_k».proof.Proof.Feed

@[expose] public section

namespace Cert.Layout

open Idealize.ShloMosaic
open Cert.Feed (TileS)

abbrev EndS : Shape := ⟨1, ![32]⟩

/-- How many experts' shares end at or before row `r`. -/
def before (E : IVec EndS 32) (r : ℕ) : ℕ :=
  (Finset.univ.filter fun e : Fin 32 => IntOp.cmpi .sge (BitVec.ofNat 32 r) (E (ix1 e)) = 1#1).card

/-- Whether row `r` lies before the end of the last share. -/
def used (E : IVec EndS 32) (r : ℕ) : BitVec 1 := IntOp.cmpi .slt (BitVec.ofNat 32 r) (E (ix1 (31 : Fin 32)))

/-- Every tile's expert: how many shares end at or before its first row, at most 31. -/
def tileExpert (E : IVec EndS 32) : IVec TileS 32 := fun i => IntOp.minsi (BitVec.ofNat 32 (before E (512 * (i 0).val))) 31#32

/-- Whether each tile is in use. -/
def tileUse (E : IVec EndS 32) : IVec TileS 32 := fun i => BitVec.setWidth 32 (used E (512 * (i 0).val))

theorem before_le (E : IVec EndS 32) (r : ℕ) : before E r ≤ 32 :=
  (Finset.card_le_univ _).trans (le_of_eq (Fintype.card_fin 32))

theorem minsi_31 : ∀ n : ℕ, n ≤ 32 → (IntOp.minsi (BitVec.ofNat 32 n) 31#32).toNat = min n 31 := by
  intro n h
  interval_cases n <;> decide

theorem tileExpert_toNat (E : IVec EndS 32) (k : Fin 160) : (tileExpert E (ix1 k)).toNat = min (before E (512 * k.val)) 31 :=
  minsi_31 _ (before_le _ _)

theorem tileExpert_lt (E : IVec EndS 32) (k : Fin 160) : (tileExpert E (ix1 k)).toNat < 32 := by
  rw [tileExpert_toNat]; omega

theorem tileUse_cases (E : IVec EndS 32) (k : Fin 160) : tileUse E (ix1 k) = 0#32 ∨ tileUse E (ix1 k) = 1#32 := by
  show BitVec.setWidth 32 (used E (512 * k.val)) = _ ∨ BitVec.setWidth 32 (used E (512 * k.val)) = _
  rcases BitVec.eq_zero_or_eq_one (used E (512 * k.val)) with h | h <;> rw [h] <;> decide

/-! ## Rows and tiles agree where every share is of whole tiles -/

/-- The ends are whole numbers of tiles. -/
def Whole (E : IVec EndS 32) : Prop := ∀ e : Fin 32, ∃ q : BitVec 32, E (ix1 e) = q * 512#32

theorem toInt_row (r : ℕ) (h : r < 81920) : (BitVec.ofNat 32 r).toInt = (r : ℤ) := by
  rw [BitVec.toInt_ofNat']
  exact Int.bmod_eq_of_le (by omega) (by omega)

theorem toInt_whole (q : BitVec 32) : ∃ z : ℤ, (q * 512#32).toInt = 512 * z := by
  have h : (q * 512#32).toNat % 512 = 0 := by
    rw [BitVec.toNat_mul, show (512#32).toNat = 512 from rfl]
    omega
  rw [BitVec.toInt_eq_toNat_cond]
  split
  · exact ⟨((q * 512#32).toNat / 512 : ℕ), by omega⟩
  · exact ⟨((q * 512#32).toNat / 512 : ℕ) - 2 ^ 23, by omega⟩

theorem sge_tile (r : ℕ) (h : r < 81920) (q : BitVec 32) :
    IntOp.cmpi .sge (BitVec.ofNat 32 r) (q * 512#32) = IntOp.cmpi .sge (BitVec.ofNat 32 (512 * (r / 512))) (q * 512#32) := by
  obtain ⟨z, hz⟩ := toInt_whole q
  show BitVec.ofBool (BitVec.sle _ _) = BitVec.ofBool (BitVec.sle _ _)
  rw [BitVec.sle_eq_decide, BitVec.sle_eq_decide, hz, toInt_row r h, toInt_row _ (by omega)]
  exact congrArg BitVec.ofBool (decide_eq_decide.2 ⟨fun _ => by omega, fun _ => by omega⟩)

theorem slt_tile (r : ℕ) (h : r < 81920) (q : BitVec 32) :
    IntOp.cmpi .slt (BitVec.ofNat 32 r) (q * 512#32) = IntOp.cmpi .slt (BitVec.ofNat 32 (512 * (r / 512))) (q * 512#32) := by
  obtain ⟨z, hz⟩ := toInt_whole q
  show BitVec.ofBool (BitVec.slt _ _) = BitVec.ofBool (BitVec.slt _ _)
  rw [BitVec.slt_eq_decide, BitVec.slt_eq_decide, hz, toInt_row r h, toInt_row _ (by omega)]
  exact congrArg BitVec.ofBool (decide_eq_decide.2 ⟨fun _ => by omega, fun _ => by omega⟩)

theorem before_tile {E : IVec EndS 32} (hE : Whole E) (r : ℕ) (h : r < 81920) : before E r = before E (512 * (r / 512)) := by
  refine congrArg Finset.card (Finset.filter_congr fun e _ => ?_)
  obtain ⟨q, hq⟩ := hE e
  rw [hq, sge_tile r h q]

theorem used_tile {E : IVec EndS 32} (hE : Whole E) (r : ℕ) (h : r < 81920) : used E r = used E (512 * (r / 512)) := by
  obtain ⟨q, hq⟩ := hE 31
  show IntOp.cmpi .slt _ _ = IntOp.cmpi .slt _ _
  rw [hq, slt_tile r h q]

/-- A row in use lies before the end of some share. -/
theorem before_used (E : IVec EndS 32) (r : ℕ) (h : used E r = 1#1) : before E r ≤ 31 := by
  have hn : (31 : Fin 32) ∉ Finset.univ.filter fun e : Fin 32 => IntOp.cmpi .sge (BitVec.ofNat 32 r) (E (ix1 e)) = 1#1 := by
    intro hm
    have h1 := (Finset.mem_filter.1 hm).2
    have h2 : BitVec.ofBool (BitVec.slt (BitVec.ofNat 32 r) (E (ix1 (31 : Fin 32)))) = 1#1 := h
    have h3 : BitVec.ofBool (BitVec.sle (E (ix1 (31 : Fin 32))) (BitVec.ofNat 32 r)) = 1#1 := h1
    rw [BitVec.slt_eq_decide] at h2
    rw [BitVec.sle_eq_decide] at h3
    by_cases hlt : (BitVec.ofNat 32 r).toInt < (E (ix1 (31 : Fin 32))).toInt
    · rw [decide_eq_false (by omega)] at h3
      exact absurd h3 (by decide)
    · rw [decide_eq_false hlt] at h2
      exact absurd h2 (by decide)
  have hlt := Finset.card_lt_univ_of_notMem hn
  rw [Fintype.card_fin] at hlt
  exact Nat.le_of_lt_succ hlt

/-- A row of an unused tile is unused. -/
theorem row_unused {E : IVec EndS 32} (hE : Whole E) (T : Fin 81920)
    (h : tileUse E (ix1 (⟨T.val / 512, by omega⟩ : Fin 160)) = 0#32) : used E T.val = 0#1 := by
  rw [used_tile hE T.val T.isLt]
  have h' : BitVec.setWidth 32 (used E (512 * (T.val / 512))) = 0#32 := h
  rcases BitVec.eq_zero_or_eq_one (used E (512 * (T.val / 512))) with e | e
  · exact e
  · rw [e] at h'; exact absurd h' (by decide)

/-- A row of a tile in use is in use, -/
theorem row_used {E : IVec EndS 32} (hE : Whole E) (T : Fin 81920)
    (h : tileUse E (ix1 (⟨T.val / 512, by omega⟩ : Fin 160)) = 1#32) : used E T.val = 1#1 := by
  rw [used_tile hE T.val T.isLt]
  have h' : BitVec.setWidth 32 (used E (512 * (T.val / 512))) = 1#32 := h
  rcases BitVec.eq_zero_or_eq_one (used E (512 * (T.val / 512))) with e | e
  · rw [e] at h'; exact absurd h' (by decide)
  · exact e

/-- and its expert is the tile's. -/
theorem row_expert {E : IVec EndS 32} (hE : Whole E) (T : Fin 81920)
    (h : tileUse E (ix1 (⟨T.val / 512, by omega⟩ : Fin 160)) = 1#32) :
    before E T.val = (tileExpert E (ix1 (⟨T.val / 512, by omega⟩ : Fin 160))).toNat := by
  have hb := before_used E T.val (row_used hE T h)
  rw [tileExpert_toNat]
  rw [before_tile hE T.val T.isLt] at hb ⊢
  show _ = min (before E (512 * (T.val / 512))) 31
  omega

/-! ## Running sums of whole tiles are whole tiles -/

theorem sum_whole (f : Fin 32 → BitVec 32) (hf : ∀ i, ∃ q : BitVec 32, f i = q * 512#32) : ∃ q : BitVec 32, ∑ i, f i = q * 512#32 := by
  choose q hq using hf
  exact ⟨∑ i, q i, by rw [Finset.sum_mul]; exact Finset.sum_congr rfl fun i _ => hq i⟩

theorem whole_cumsum (x : IVec EndS 32) (hx : Whole x) (init : IVec ⟨0, ![]⟩ 32) (hinit : init ix0 = 0#32)
    (h : EndS.ReduceWindows (![32] : Fin 1 → Nat) ![1] ![31] ![0] EndS) (hu : 0 < (⟨0, ![]⟩ : Shape).numel) :
    Whole (Host.reduceWindow IntOp.addi ![32] ![1] ![31] ![0] x init h hu) := by
  intro e
  have hs := Routing.cumsum_vec (N := 32) (Nm1 := 31) rfl x init hinit h hu e
  obtain ⟨q, hq⟩ := sum_whole (fun i : Fin 32 => if i ≤ e then x (ix1 i) else 0) (fun i => by
    by_cases hi : i ≤ e
    · obtain ⟨q, hq⟩ := hx i
      exact ⟨q, by rw [if_pos hi]; exact hq⟩
    · exact ⟨0, by rw [if_neg hi, zero_mul]⟩)
  exact ⟨q, hs.trans hq⟩

end Cert.Layout
-- ==== Proof.ExIKit.lean ====
/- What the call of the chosen experts needs before its body is run: the pipeline's schedule, the arrays and the
   prefetched tables as the region finds them, the blocks its windows hold, and the memrefs the body is handed. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Ffn

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 3 (%34)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%37)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_v36) (Memref.isWhole_whole _) (Memref.whole main_v27) (Memref.isWhole_whole _) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)

/-- The lines of host operations before the region, in order. -/
abbrev hostLines : List (List (HloOp τ sig (Elt F))) := [hostOps0, hostOps0_1, hostOps0_2, hostOps0_3, hostOps0_4]

/-- Core `c`'s TensorCore buffers when the region is entered: after the host operations (Launch.lean). -/
abbrev V (c : Dev nD) (b : Ref sig .tc) : Buf (Elt F) ((c : Thread nD τ).loc b) := StableHlo.after (hostLines (F := F)).flatten (fun b => m (c, b)) b

theorem hostLines_sub : (hostLines : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩

theorem hostLines_fresh : (hostLines : List (List (HloOp τ sig (Elt F)))).Forall fun ops => ops.Forall fun op => op.fresh = ∅ := by
  simp only [List.Forall]; repeat' constructor

set_option maxHeartbeats 800000 in
/-- @main up to the region, at the certificate's variants `𝒱₀`: the host operations then the region
    (`Pipeline.hmainP_prefixes`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLines hostLines_sub hostLines_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostLines, hostOps0, hostOps0_1, hostOps0_2, hostOps0_3, hostOps0_4, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_v36
abbrev htbM0_0 : tbM0_0.IsWhole := Memref.isWhole_whole _
abbrev tbM0_1 : Memref sig .tc .smem S160 .i32 := Memref.whole main_v27
abbrev htbM0_1 : tbM0_1.IsWhole := Memref.isWhole_whole _
abbrev tbM0_2 : Memref sig .tc .smem S160 .i32 := Memref.whole main_v33
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Experts`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- One staging buffer of output window 4, through which its contents are stated (`View.read_writes_of_cover`: the
    choice does not matter). -/
abbrev VO0_4 : View sig .tc .vmem S4096x128 .f32 := (Memref.whole cc0_stg4_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4096x128 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x256 .bf16 := Memref.whole cc0_scratch0
abbrev scM0_1 : Memref sig .tc .vmem S1024x256 .bf16 := Memref.whole cc0_scratch1
abbrev scM0_2 : Memref sig .tc .vmem S256x1024 .bf16 := Memref.whole cc0_scratch2
/-- The scratch `arg9` the kernel carries between points, as a view: what it holds is stated through it. -/
abbrev VS0_0 : View sig .tc .vmem S1024x256 .bf16 := scM0_0.view
/-- The scratch `arg10` the kernel carries between points, as a view: what it holds is stated through it. -/
abbrev VS0_1 : View sig .tc .vmem S1024x256 .bf16 := scM0_1.view
/-- The scratch `arg11` the kernel carries between points, as a view: what it holds is stated through it. -/
abbrev VS0_2 : View sig .tc .vmem S256x1024 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.ExpertsIdeal.Ffn

end
-- ==== Proof.ExIRun.lean ====
/- One run of the expert kernel's body, whatever the words its tables hold: with new weights in the windows it first
   copies them, rounded, into its three scratch arrays; with a tile in use it then leaves the tile's feed-forward in the
   output window, and with a tile unused it leaves zeros there. -/
module

public import proofs.«01_k».proof.Proof.ExIKit
public import Idealize.ShloMosaic.Lib.Pointwise
public import Idealize.ShloMosaic.Lib.WholeRead
public import Idealize.ShloMosaic.Lib.VecWindow

@[expose] public section

set_option maxRecDepth 16384

noncomputable section

namespace Cert.ExpertsIdeal.Ffn

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The word of the third table at the point: whether the weights are new there. -/
abbrev newWord (c : Dev nD) (i : grid0.Coords) (xt2 : TbBuf0 (F := F) c tbM0_2) : Elt F .i32 :=
  View.readAt (Elt F) tbM0_2.view (Rect.unit (s := S160) (k0_off1 i) S1.size (k0_off1_inb i)).toLoadRect xt2 (Shape.Idx.first (by show 0 < S1.numel; decide))

/-- The word of the second table at the point: whether the tile is in use. -/
abbrev useWord (c : Dev nD) (i : grid0.Coords) (xt1 : TbBuf0 (F := F) c tbM0_1) : Elt F .i32 :=
  View.readAt (Elt F) tbM0_1.view (Rect.unit (s := S160) (k0_off2 i) S1.size (k0_off2_inb i)).toLoadRect xt1 (Shape.Idx.first (by show 0 < S1.numel; decide))

/-- The body's first question: are the weights new? -/
abbrev IsNew (w : BitVec 32) : Prop := Scalar.cmpi .ne (Scalar.extui (Scalar.cmpi .sgt w 0#32)) 0#32 = 1#1
/-- Its second question: is the tile in use? -/
abbrev InUse (w : BitVec 32) : Prop := k0_cond2 w = 1#1
/-- Its third question: is the tile unused? -/
abbrev Unused (w : BitVec 32) : Prop := k0_cond3 w = 1#1

/-- Every eighth row of a tile's block, from row `k` on: the `k`-th 128 of the tile's 1024 columns. -/
def lane (x : Vec F S4096x128 .f32) (k : ℕ) (hk : k < 8) : Vec F S512x128 .f32 :=
  fun y => x (ix2 ⟨8 * (y 0).val + k, by have h : (y 0).val < 512 := (y 0).isLt; omega⟩ ⟨(y 1).val, (y 1).isLt⟩)

/-- The feed-forward of a tile with the weights `s0`, `s1`, `s2`. -/
def feed (x : Vec F S4096x128 .f32) (s0 s1 : Vec F S1024x256 .bf16) (s2 : Vec F S256x1024 .bf16) : FVec F S512x1024 .f32 :=
  k0_pay11 (lane x 0 (by decide)) (lane x 1 (by decide)) (lane x 2 (by decide)) (lane x 3 (by decide))
    (lane x 4 (by decide)) (lane x 5 (by decide)) (lane x 6 (by decide)) (lane x 7 (by decide)) s0 s1 s2

/-- 512 rows of 1024 as the output window holds them: eight rows of 128 for each. -/
def tiled (v : FVec F S512x1024 .f32) : Vec F S4096x128 .f32 :=
  fun y => v (ix2 ⟨(y 0).val / 8, by have h : (y 0).val < 4096 := (y 0).isLt; omega⟩
    ⟨128 * ((y 0).val % 8) + (y 1).val, by have h : (y 1).val < 128 := (y 1).isLt; omega⟩)

/-- What a scratch array holds after the first question. -/
theorem scratch_read {s : Shape} {e : EltTy} {M : Memref sig .tc .vmem s e} (hM : M.IsWhole) (X : s.Idx → Elt F e)
    {off : Fin s.rank → ℕ} (inb : ∀ a, off a + s.size a ≤ s.size a) (w : s.Idx → Elt F e) (p : Prop) [Decidable p] :
    M.view.read (Elt F) (if hc : p then M.view.writes (Elt F) (hM.unread X) [⟨Rect.unit off s.size inb, w⟩] else hM.unread X)
      = if p then w else X := by
  split
  · rw [View.read_writes_full]
  · exact hM.read_unread X

/-- The same as a load of all of it. -/
theorem scratch_load {s : Shape} {e : EltTy} {M : Memref sig .tc .vmem s e} (hM : M.IsWhole) (X : s.Idx → Elt F e)
    {off off' : Fin s.rank → ℕ} (inb : ∀ a, off a + s.size a ≤ s.size a) (inb' : ∀ a, off' a + s.size a ≤ s.size a)
    (w : s.Idx → Elt F e) (p : Prop) [Decidable p] :
    View.readAt (Elt F) M.view (Rect.unit off' s.size inb').toLoadRect
        (if hc : p then M.view.writes (Elt F) (hM.unread X) [⟨Rect.unit off s.size inb, w⟩] else hM.unread X)
      = if p then w else X := by
  rw [View.readAt_full, scratch_read]

/-- A load of all of an input window. -/
theorem input_load {s : Shape} {e : EltTy} {M : Memref sig .tc .vmem s e} (hM : M.IsWhole) (X : s.Idx → Elt F e)
    {off : Fin s.rank → ℕ} (inb : ∀ a, off a + s.size a ≤ s.size a) :
    View.readAt (Elt F) M.view (Rect.unit off s.size inb).toLoadRect (hM.unread X) = X := by
  rw [View.readAt_full]; exact hM.read_unread X

/-- A strided load of the tile's block is its `k`-th lane. -/
theorem lane_load {M : Memref sig .tc .vmem S4096x128 .f32} (hM : M.IsWhole) (X : Vec F S4096x128 .f32) (k : ℕ) (hk : k < 8) :
    ∀ inb, View.readAt (Elt F) M.view (⟨![k, 0], S512x128.size, ![8, 1], inb⟩ : LoadRect S4096x128) (hM.unread X) = lane X k hk := by
  intro inb
  funext y
  rw [hM.readAt_unread]
  refine congrArg X (funext fun a => Fin.ext ?_)
  match a with
  | ⟨0, _⟩ => show k + 8 * (y 0).val = 8 * (y 0).val + k; omega
  | ⟨1, _⟩ => show 0 + 1 * (y 1).val = (y 1).val; omega

/-- The `k`-th 128 columns are what the `k`-th lane of the layout holds. -/
theorem slice_lane (v : FVec F S512x1024 .f32) (k : ℕ) : ∀ inb pos, ∀ h, ∀ x,
    extractStridedSlice S512x128 ![0, 128 * k] v h x
      = tiled v ((⟨(⟨![k, 0], S512x128.size, ![8, 1], inb⟩ : LoadRect S4096x128), pos⟩ : Rect S4096x128).emb x) := by
  intro inb pos h x
  have hk : k < 8 := by
    rcases inb 0 with h0 | h0
    · exact absurd h0 (by decide)
    · have h1 : k + 8 * (512 - 1) < 4096 := h0
      omega
  refine congrArg v (funext fun a => Fin.ext ?_)
  have e0 : (((⟨(⟨![k, 0], S512x128.size, ![8, 1], inb⟩ : LoadRect S4096x128), pos⟩ : Rect S4096x128).emb x) 0).val = k + 8 * (x 0).val := rfl
  have e1 : (((⟨(⟨![k, 0], S512x128.size, ![8, 1], inb⟩ : LoadRect S4096x128), pos⟩ : Rect S4096x128).emb x) 1).val = 0 + 1 * (x 1).val := rfl
  match a with
  | ⟨0, _⟩ => show 0 + (x 0).val = (((⟨(⟨![k, 0], S512x128.size, ![8, 1], inb⟩ : LoadRect S4096x128), pos⟩ : Rect S4096x128).emb x) 0).val / 8; omega
  | ⟨1, _⟩ =>
    show 128 * k + (x 1).val = 128 * ((((⟨(⟨![k, 0], S512x128.size, ![8, 1], inb⟩ : LoadRect S4096x128), pos⟩ : Rect S4096x128).emb x) 0).val % 8)
      + (((⟨(⟨![k, 0], S512x128.size, ![8, 1], inb⟩ : LoadRect S4096x128), pos⟩ : Rect S4096x128).emb x) 1).val
    omega

/-- Which lane of the layout an element lies in. -/
theorem mem_lane (y : S4096x128.Idx) (k : ℕ) (hk : (y 0).val % 8 = k) : ∀ inb pos,
    y ∈ (⟨(⟨![k, 0], S512x128.size, ![8, 1], inb⟩ : LoadRect S4096x128), pos⟩ : Rect S4096x128).set := by
  intro inb pos
  refine LoadRect.mem_set _ |>.mpr fun a => ?_
  have h0 : (y 0).val < 4096 := (y 0).isLt
  have h1 : (y 1).val < 128 := (y 1).isLt
  match a with
  | ⟨0, _⟩ => exact ⟨(y 0).val / 8, by show (y 0).val / 8 < 512; omega, by show (y 0).val = k + 8 * ((y 0).val / 8); omega⟩
  | ⟨1, _⟩ => exact ⟨(y 1).val, h1, by show (y 1).val = 0 + 1 * (y 1).val; omega⟩

/-- Eight strided stores of the 128-column parts of `v` leave `v` in the window's layout. -/
theorem tiled_read {M : Memref sig .tc .vmem S4096x128 .f32} (f : M.view.ty.Contents (Elt F)) (v : FVec F S512x1024 .f32) :
    M.view.read (Elt F) (M.view.writes (Elt F) f
      [⟨⟨(⟨![7, 0], S512x128.size, ![8, 1], inb_S4096x128_S512x128_7_0_s_8_1⟩ : LoadRect S4096x128), spos_8_1⟩, k0_pay9 v⟩,
       ⟨⟨(⟨![6, 0], S512x128.size, ![8, 1], inb_S4096x128_S512x128_6_0_s_8_1⟩ : LoadRect S4096x128), spos_8_1⟩, k0_pay8 v⟩,
       ⟨⟨(⟨![5, 0], S512x128.size, ![8, 1], inb_S4096x128_S512x128_5_0_s_8_1⟩ : LoadRect S4096x128), spos_8_1⟩, k0_pay7 v⟩,
       ⟨⟨(⟨![4, 0], S512x128.size, ![8, 1], inb_S4096x128_S512x128_4_0_s_8_1⟩ : LoadRect S4096x128), spos_8_1⟩, k0_pay6 v⟩,
       ⟨⟨(⟨![3, 0], S512x128.size, ![8, 1], inb_S4096x128_S512x128_3_0_s_8_1⟩ : LoadRect S4096x128), spos_8_1⟩, k0_pay5 v⟩,
       ⟨⟨(⟨![2, 0], S512x128.size, ![8, 1], inb_S4096x128_S512x128_2_0_s_8_1⟩ : LoadRect S4096x128), spos_8_1⟩, k0_pay4 v⟩,
       ⟨⟨(⟨![1, 0], S512x128.size, ![8, 1], inb_S4096x128_S512x128_1_0_s_8_1⟩ : LoadRect S4096x128), spos_8_1⟩, extractStridedSlice S512x128 ![0, 128] v slices_S512x1024_o0_128_S512x128⟩,
       ⟨⟨(⟨![0, 0], S512x128.size, ![8, 1], inb_S4096x128_S512x128_0_0_s_8_1⟩ : LoadRect S4096x128), spos_8_1⟩, extractStridedSlice S512x128 ![0, 0] v slices_S512x1024_o0_0_S512x128⟩]) = tiled v := by
  funext y
  refine View.read_writes_apply_of_pieces _ _ (tiled v) _ ?_ y ?_
  · intro p hp
    simp only [List.mem_cons, List.not_mem_nil, or_false] at hp
    rcases hp with rfl | rfl | rfl | rfl | rfl | rfl | rfl | rfl
    · exact slice_lane v 7 _ _ slices_S512x1024_o0_896_S512x128
    · exact slice_lane v 6 _ _ slices_S512x1024_o0_768_S512x128
    · exact slice_lane v 5 _ _ slices_S512x1024_o0_640_S512x128
    · exact slice_lane v 4 _ _ slices_S512x1024_o0_512_S512x128
    · exact slice_lane v 3 _ _ slices_S512x1024_o0_384_S512x128
    · exact slice_lane v 2 _ _ slices_S512x1024_o0_256_S512x128
    · exact slice_lane v 1 _ _ slices_S512x1024_o0_128_S512x128
    · exact slice_lane v 0 _ _ slices_S512x1024_o0_0_S512x128
  · have hy : (y 0).val % 8 < 8 := Nat.mod_lt _ (by decide)
    generalize hk : (y 0).val % 8 = k at hy
    interval_cases k
    · exact ⟨_, .tail _ (.tail _ (.tail _ (.tail _ (.tail _ (.tail _ (.tail _ (.head _))))))), mem_lane y 0 hk _ _⟩
    · exact ⟨_, .tail _ (.tail _ (.tail _ (.tail _ (.tail _ (.tail _ (.head _)))))), mem_lane y 1 hk _ _⟩
    · exact ⟨_, .tail _ (.tail _ (.tail _ (.tail _ (.tail _ (.head _))))), mem_lane y 2 hk _ _⟩
    · exact ⟨_, .tail _ (.tail _ (.tail _ (.tail _ (.head _)))), mem_lane y 3 hk _ _⟩
    · exact ⟨_, .tail _ (.tail _ (.tail _ (.head _))), mem_lane y 4 hk _ _⟩
    · exact ⟨_, .tail _ (.tail _ (.head _)), mem_lane y 5 hk _ _⟩
    · exact ⟨_, .tail _ (.head _), mem_lane y 6 hk _ _⟩
    · exact ⟨_, .head _, mem_lane y 7 hk _ _⟩

set_option maxHeartbeats 1200000 in
/-- THE BODY, at a point whose tile is either in use or unused. -/
theorem body (c : Dev nD) (i : grid0.Coords) (arg4 : Memref sig .tc .vmem S4096x128 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S4096x128 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S256x1024 .bf16) (harg11 : arg11.IsWhole)
    (x0 : Vec F S4096x128 .f32) (x1 : Vec F S1x1024x256 .f32) (x2 : Vec F S1x1024x256 .f32) (x3 : Vec F S1x256x1024 .f32)
    (xt0 : TbBuf0 (F := F) c tbM0_0) (xt1 : TbBuf0 (F := F) c tbM0_1) (xt2 : TbBuf0 (F := F) c tbM0_2)
    (xs0 : Vec F S1024x256 .bf16) (xs1 : Vec F S1024x256 .bf16) (xs2 : Vec F S256x1024 .bf16)
    (hu : Unused (useWord c i xt1) ↔ ¬ InUse (useWord c i xt1)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare (if InUse (useWord c i xt1) then
              tiled (feed x0 (if IsNew (newWord c i xt2) then k0_pay1 x1 else xs0) (if IsNew (newWord c i xt2) then k0_pay2 x2 else xs1) (if IsNew (newWord c i xt2) then k0_pay3 x3 else xs2))
            else k0_pay10)
          ∗ owns (c : Thread nD τ) arg9 fullShare (if IsNew (newWord c i xt2) then k0_pay1 x1 else xs0) ∗ owns (c : Thread nD τ) arg10 fullShare (if IsNew (newWord c i xt2) then k0_pay2 x2 else xs1) ∗ owns (c : Thread nD τ) arg11 fullShare (if IsNew (newWord c i xt2) then k0_pay3 x3 else xs2)
          ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, HT0, HT1, HT2, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; swap; · iexact H4
    ipureintro
    by_cases h2 : InUse (useWord c i xt1)
    · have h3 : ¬ Unused (useWord c i xt1) := fun h => hu.mp h h2
      rw [if_pos h2]
      refine (congrArg (arg8.view.read (Elt F)) ((dif_neg h3).trans (dif_pos h2))).trans ?_
      refine (tiled_read (M := arg8) f4 (body.sl.r_2 c i arg4 harg4 arg5 harg5 arg6 harg6 arg7 harg7 arg9 harg9 arg10 harg10 arg11 harg11 x0 x1 x2 x3 xt2 xs0 xs1 xs2)).trans (congrArg tiled ?_)
      unfold body.sl.r_2 feed
      rw [lane_load harg4 x0 0 (by decide), lane_load harg4 x0 1 (by decide), lane_load harg4 x0 2 (by decide), lane_load harg4 x0 3 (by decide),
        lane_load harg4 x0 4 (by decide), lane_load harg4 x0 5 (by decide), lane_load harg4 x0 6 (by decide), lane_load harg4 x0 7 (by decide)]
      have e0 : body.sl.v33 c i arg5 harg5 arg9 harg9 x1 xt2 xs0 = if IsNew (newWord c i xt2) then k0_pay1 x1 else xs0 := by
        refine (scratch_load harg9 xs0 _ _ _ _).trans ?_
        rw [show k0_pay1 _ = k0_pay1 x1 from congrArg k0_pay1 (input_load harg5 x1 _)]
        rfl
      have e1 : body.sl.v35 c i arg6 harg6 arg10 harg10 x2 xt2 xs1 = if IsNew (newWord c i xt2) then k0_pay2 x2 else xs1 := by
        refine (scratch_load harg10 xs1 _ _ _ _).trans ?_
        rw [show k0_pay2 _ = k0_pay2 x2 from congrArg k0_pay2 (input_load harg6 x2 _)]
        rfl
      have e2 : body.sl.v41 c i arg7 harg7 arg11 harg11 x3 xt2 xs2 = if IsNew (newWord c i xt2) then k0_pay3 x3 else xs2 := by
        refine (scratch_load harg11 xs2 _ _ _ _).trans ?_
        rw [show k0_pay3 _ = k0_pay3 x3 from congrArg k0_pay3 (input_load harg7 x3 _)]
        rfl
      rw [e0, e1, e2]
    · have h3 : Unused (useWord c i xt1) := hu.mpr h2
      rw [if_neg h2]
      refine (congrArg (arg8.view.read (Elt F)) (dif_pos h3)).trans ?_
      exact View.read_writes_full _ _ _ _ _
  isplitl [HS0]
  · iexists _; isplitr; swap; · iexact HS0
    ipureintro
    refine (scratch_read harg9 xs0 _ _ _).trans ?_
    rw [show k0_pay1 _ = k0_pay1 x1 from congrArg k0_pay1 (input_load harg5 x1 _)]
    rfl
  isplitl [HS1]
  · iexists _; isplitr; swap; · iexact HS1
    ipureintro
    refine (scratch_read harg10 xs1 _ _ _).trans ?_
    rw [show k0_pay2 _ = k0_pay2 x2 from congrArg k0_pay2 (input_load harg6 x2 _)]
    rfl
  isplitl [HS2]
  · iexists _; isplitr; swap; · iexact HS2
    ipureintro
    refine (scratch_read harg11 xs2 _ _ _).trans ?_
    rw [show k0_pay3 _ = k0_pay3 x3 from congrArg k0_pay3 (input_load harg7 x3 _)]
    rfl
  isplitl [HT0]; · iexact HT0
  isplitl [HT1]; · iexact HT1
  iexact HT2

end Cert.ExpertsIdeal.Ffn

end
-- ==== Proof.ExIFrame.lean ====
/- The whole run of the call of the chosen experts. The scratch arrays carry the rounded weights of the last tile from
   one point to the next; where a point's weights are not new they are the weights of the point before, so every point
   finds its own. -/
module

public import proofs.«01_k».proof.Proof.ExIRun
public import Idealize.ShloMosaic.Lib.Claim

@[expose] public section

set_option maxRecDepth 16384

noncomputable section

namespace Cert.ExpertsIdeal.Ffn

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body where the scratch arrays already hold the point's weights, or the weights are new. -/
theorem body_fresh (c : Dev nD) (i : grid0.Coords) (arg4 : Memref sig .tc .vmem S4096x128 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S4096x128 .f32) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S256x1024 .bf16) (harg11 : arg11.IsWhole)
    (x0 : Vec F S4096x128 .f32) (x1 : Vec F S1x1024x256 .f32) (x2 : Vec F S1x1024x256 .f32) (x3 : Vec F S1x256x1024 .f32)
    (xt0 : TbBuf0 (F := F) c tbM0_0) (xt1 : TbBuf0 (F := F) c tbM0_1) (xt2 : TbBuf0 (F := F) c tbM0_2)
    (xs0 : Vec F S1024x256 .bf16) (xs1 : Vec F S1024x256 .bf16) (xs2 : Vec F S256x1024 .bf16)
    (hu : Unused (useWord c i xt1) ↔ ¬ InUse (useWord c i xt1))
    (hn : IsNew (newWord c i xt2) ∨ xs0 = k0_pay1 x1 ∧ xs1 = k0_pay2 x2 ∧ xs2 = k0_pay3 x3) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3
          ∗ owns (c : Thread nD τ) arg8 fullShare (if InUse (useWord c i xt1) then tiled (feed x0 (k0_pay1 x1) (k0_pay2 x2) (k0_pay3 x3)) else k0_pay10)
          ∗ owns (c : Thread nD τ) arg9 fullShare (k0_pay1 x1) ∗ owns (c : Thread nD τ) arg10 fullShare (k0_pay2 x2) ∗ owns (c : Thread nD τ) arg11 fullShare (k0_pay3 x3)
          ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  have h := body c i arg4 harg4 arg5 harg5 arg6 harg6 arg7 harg7 arg8 harg8 arg9 harg9 arg10 harg10 arg11 harg11 x0 x1 x2 x3 xt0 xt1 xt2 xs0 xs1 xs2 hu E K
  have e0 : (if IsNew (newWord c i xt2) then k0_pay1 x1 else xs0) = k0_pay1 x1 := by
    split
    · rfl
    · rename_i hw; exact (hn.resolve_left hw).1
  have e1 : (if IsNew (newWord c i xt2) then k0_pay2 x2 else xs1) = k0_pay2 x2 := by
    split
    · rfl
    · rename_i hw; exact (hn.resolve_left hw).2.1
  have e2 : (if IsNew (newWord c i xt2) then k0_pay3 x3 else xs2) = k0_pay3 x3 := by
    split
    · rfl
    · rename_i hw; exact (hn.resolve_left hw).2.2
  rw [e0, e1, e2] at h
  exact h

/-- The weights' blocks of the point before. -/
abbrev prev (hO : Ok m) (t : Fin (cfgM m hO).N) : Fin (cfgM m hO).N := ⟨t.val - 1, Nat.lt_of_le_of_lt (Nat.sub_le _ _) t.isLt⟩

/-- What the tables' words must say for the body to find every tile's weights: the first point's weights are new, a
    later point's are new or those of the point before, and a tile is unused just when it is not in use. -/
structure Fed (hO : Ok m) : Prop where
  use : ∀ (c : Dev nD) (t : Fin (cfgM m hO).N), Unused (useWord c (grid0.coords t) (tbl m 1)) ↔ ¬ InUse (useWord c (grid0.coords t) (tbl m 1))
  new : ∀ (c : Dev nD) (t : Fin (cfgM m hO).N), t.val = 0 → IsNew (newWord c (grid0.coords t) (tbl m 2))
  same1 : ∀ (c : Dev nD) (t : Fin (cfgM m hO).N), t.val ≠ 0 → ¬ IsNew (newWord c (grid0.coords t) (tbl m 2)) →
    (iblk m hO c 1 (prev m hO t) : Vec F S1x1024x256 .f32) = iblk m hO c 1 t
  same2 : ∀ (c : Dev nD) (t : Fin (cfgM m hO).N), t.val ≠ 0 → ¬ IsNew (newWord c (grid0.coords t) (tbl m 2)) →
    (iblk m hO c 2 (prev m hO t) : Vec F S1x1024x256 .f32) = iblk m hO c 2 t
  same3 : ∀ (c : Dev nD) (t : Fin (cfgM m hO).N), t.val ≠ 0 → ¬ IsNew (newWord c (grid0.coords t) (tbl m 2)) →
    (iblk m hO c 3 (prev m hO t) : Vec F S1x256x1024 .f32) = iblk m hO c 3 t

/-- What point `t` leaves in the output window. -/
def outAt (hO : Ok m) (c : Dev nD) (t : Fin (cfgM m hO).N) : Vec F S4096x128 .f32 :=
  if InUse (useWord c (grid0.coords t) (tbl m 1)) then
    tiled (feed (iblk m hO c 0 t) (k0_pay1 (iblk m hO c 1 t)) (k0_pay2 (iblk m hO c 2 t)) (k0_pay3 (iblk m hO c 3 t)))
  else k0_pay10

/-- What is held beside the windows before point `n`: after the first, the scratch arrays at the weights of the point before. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (k0_pay1 (iblk m hO c 1 ⟨n, hn⟩)) ∗ owns (c : Thread nD τ) scM0_1 fullShare (k0_pay2 (iblk m hO c 2 ⟨n, hn⟩)) ∗ owns (c : Thread nD τ) scM0_2 fullShare (k0_pay3 (iblk m hO c 3 ⟨n, hn⟩))) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (k0_pay1 (iblk m hO c 1 ⟨n, hn⟩)) ∗ owns (c : Thread nD τ) scM0_1 fullShare (k0_pay2 (iblk m hO c 2 ⟨n, hn⟩)) ∗ owns (c : Thread nD τ) scM0_2 fullShare (k0_pay3 (iblk m hO c 3 ⟨n, hn⟩))) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare (k0_pay1 (iblk m hO c 1 ⟨n - 1, by omega⟩)) ∗ owns (c : Thread nD τ) scM0_1 fullShare (k0_pay2 (iblk m hO c 2 ⟨n - 1, by omega⟩)) ∗ owns (c : Thread nD τ) scM0_2 fullShare (k0_pay3 (iblk m hO c 3 ⟨n - 1, by omega⟩))) ∗ (∃ r, prngReg c r)) ∗ Pipeline.ΦT pre0 (tbl m) c) := by
  cases n with
  | zero => exact absurd rfl hz
  | succ n => rfl

/-- The proof data: each input's buffer keeps its block, the output's is left at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 3200000 in
/-- The body at any point. -/
theorem sound_body (hO : Ok m) (hf : Fed m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq]
  unfold outAt
  by_cases hz : t.val = 0
  · rw [PhiS_castSucc m hO c t, PhiS_zero m hO c _ _ hz, PhiT0_eq, PhiA0_eq]
    have hn : ∀ s0 s1 s2, IsNew (newWord c (grid0.coords t) (tbl m 2)) ∨ s0 = k0_pay1 (iblk m hO c 1 t) ∧ s1 = k0_pay2 (iblk m hO c 2 t) ∧ s2 = k0_pay3 (iblk m hO c 3 t) :=
      fun _ _ _ => .inl (hf.new c t hz)
    iintro ⟨⟨⟨⟨⟨%s0, HS0⟩, ⟨%s1, HS1⟩, ⟨%s2, HS2⟩⟩, Hg⟩, ⟨HT0, HT1, HT2⟩⟩, Ho, ⟨%d0, H0⟩, ⟨%d1, H1⟩, ⟨%d2, H2⟩, ⟨%d3, H3⟩, ⟨%d4, H4⟩⟩
    iapply (body_fresh c (grid0.coords t) _ _ _ _ _ _ _ _ _ _ _ _ _ _ _ _ (iblk m hO c 0 t) (iblk m hO c 1 t) (iblk m hO c 2 t) (iblk m hO c 3 t) (tbl m 0) (tbl m 1) (tbl m 2) _ _ _ (hf.use c t) (hn s0 s1 s2) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, H4, HS0, HS1, HS2, HT0, HT1, HT2⟩
    isplitl [HS0 HS1 HS2 Hg HT0 HT1 HT2]
    · isplitl [HS0 HS1 HS2 Hg]
      · isplitl [HS0 HS1 HS2]
        · isplitl [HS0]
          · iexact HS0
          isplitl [HS1]
          · iexact HS1
          iexact HS2
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · rw [PhiS_castSucc m hO c t, PhiS_pos m hO c _ _ hz, PhiT0_eq]
    have hn : IsNew (newWord c (grid0.coords t) (tbl m 2)) ∨ k0_pay1 (iblk m hO c 1 (prev m hO t)) = k0_pay1 (iblk m hO c 1 t) ∧ k0_pay2 (iblk m hO c 2 (prev m hO t)) = k0_pay2 (iblk m hO c 2 t) ∧ k0_pay3 (iblk m hO c 3 (prev m hO t)) = k0_pay3 (iblk m hO c 3 t) := by
      by_cases hw : IsNew (newWord c (grid0.coords t) (tbl m 2))
      · exact .inl hw
      · exact .inr ⟨congrArg k0_pay1 (hf.same1 c t hz hw), congrArg k0_pay2 (hf.same2 c t hz hw), congrArg k0_pay3 (hf.same3 c t hz hw)⟩
    iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
    iapply (body_fresh c (grid0.coords t) _ _ _ _ _ _ _ _ _ _ _ _ _ _ _ _ (iblk m hO c 0 t) (iblk m hO c 1 t) (iblk m hO c 2 t) (iblk m hO c 3 t) (tbl m 0) (tbl m 1) (tbl m 2) _ _ _ (hf.use c t) hn Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    isplitl [HT2]; · iexact HT2
    iintro ⟨H0, H1, H2, H3, H4, HS0, HS1, HS2, HT0, HT1, HT2⟩
    isplitl [HS0 HS1 HS2 Hg HT0 HT1 HT2]
    · isplitl [HS0 HS1 HS2 Hg]
      · isplitl [HS0 HS1 HS2]
        · isplitl [HS0]
          · iexact HS0
          isplitl [HS1]
          · iexact HS1
          iexact HS2
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A buffer written back at a point is left at its contents, whether the point stores into it or not. -/
theorem left4 (b f : Bool) (P Q : sProp 𝕄) : f = true →
    (Q ⊢ (match b with | true => (match f with | false => P | true => Q) | false => Q)) := by
  intro hf; subst hf
  cases b <;> exact .rfl

/-- The body's obligation at every point. -/
theorem body_obligation (hO : Ok m) (hf : Fed m hO) (c : Dev nD) : BodyObligation (dats (F := F) m hO 0 c) (defs₀ (F := F)) Variants.none () Set.univ := fun t => by
  rw [bigSep_W0, bigSep_W0, defs₀_row m hO]
  refine triple_restated (sound_body m hO hf c t) rfl .rfl fun _ => ?_
  unfold bodyPost
  refine sep_mono .rfl (sep_mono .rfl (sep_mono .rfl (sep_mono .rfl (sep_mono .rfl (sep_mono .rfl ?_)))))
  exact left4 (F := F) ((cfgM m hO).idle 4 ((cfgM m hO).grid.coords t)) (((cfgM m hO).win 4).flush t) _ _ (flush0_4 (adm m hO) t)

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 160 := N_0; omega)

-- `θ_run_frameP_track`'s implicit arguments are found by unifying its conclusion with this one, which takes unfolding plain
-- definitions in a metavariable's type
set_option backward.isDefEq.respectTransparency.types false in
/-- Every run of the program ends with each array at what the proof data says, and with all semaphores at zero. -/
theorem run_main_quiescent (hO : Ok m) (hf : Fed m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hf c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the semaphores. -/
theorem run_main (hO : Ok m) (hf : Fed m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hf)

/-- The argument arrays end unchanged. -/
theorem unchanged (hO : Ok m) (hf : Fed m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hf)

theorem frame (hO : Ok m) (hf : Fed m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hf) ((θ_run defs _ _).mono (fun _ h => h.2) (run_main_quiescent m ρ hO hf))

end Cert.ExpertsIdeal.Ffn

end
-- ==== Proof.ExITab.lean ====
/-
  THE TABLES of the call of the chosen experts, as the host makes them from the experts' counts, and what they make of the
  call: every tile's expert is one of the 32 and every tile is in use or not, so each point's weights are its expert's, and
  they are new or those of the point before.
-/
module

public import proofs.«01_k».proof.Proof.ExIFrame
public import proofs.«01_k».proof.Proof.Layout
public import Idealize.ShloMosaic.Lib.StableHlo.ReadAt
public import Idealize.ShloMosaic.Lib.StableHlo.Predicate
public import Idealize.ShloMosaic.Lib.Pointwise

@[expose] public section

set_option maxRecDepth 16384

noncomputable section

namespace Cert.ExpertsIdeal.Ffn

open Cert.ExpertsIdeal.Gen
open Idealize.ShloMosaic Idealize.ShloMosaic.TcCoe Idealize.SL.Sem

variable {F : FTy → Type} [FloatOps F]
variable (m : (ℓ : Loc nD τ sig) → Buf (Elt F) ℓ)

/-- The ends of the experts' shares. -/
abbrev ends (c : Dev nD) : IVec S32 32 := V m c main_v10

theorem V_split (c : Dev nD) (b : Ref sig .tc) : V m c b
    = StableHlo.after hostOps0_4 (StableHlo.after ([hostOps0, hostOps0_1, hostOps0_2, hostOps0_3] : List (List (HloOp τ sig (Elt F)))).flatten (fun b => m (c, b))) b := by
  show StableHlo.after (([hostOps0, hostOps0_1, hostOps0_2, hostOps0_3] : List (List (HloOp τ sig (Elt F)))).flatten ++ hostOps0_4) _ _ = _
  rw [StableHlo.after_append]

/-- Whole numbers divided, rounding down. -/
def floorVec (x : IVec S32 32) (n : IVec S_ 32) : IVec S32 32 :=
  select (andi (cmpi .ne (signi x) (broadcastInDim S32 ![] bcast_S_S32 (signi (id n)))) (cmpi .ne (Host.remsi x (broadcastInDim S32 ![] bcast_S_S32 (id n))) (broadcastInDim S32 ![] bcast_S_S32 (constantI S_ 32 0#32)))) (subi (Host.divsi x (broadcastInDim S32 ![] bcast_S_S32 (id n))) (broadcastInDim S32 ![] bcast_S_S32 (constantI S_ 32 1#32))) (Host.divsi x (broadcastInDim S32 ![] bcast_S_S32 (id n)))

/-- The ends from the counts: each share rounded up to whole tiles of 512, and the shares summed. -/
def endsVec (counts : IVec S32 32) : IVec S32 32 :=
  Host.reduceWindow IntOp.addi ![32] ![1] ![31] ![0] (muli (floorVec (subi (addi counts (broadcastInDim S32 ![] bcast_S_S32 (constantI S_ 32 512#32))) (broadcastInDim S32 ![] bcast_S_S32 (constantI S_ 32 1#32))) (constantI S_ 32 512#32)) (broadcastInDim S32 ![] bcast_S_S32 (constantI S_ 32 512#32))) (broadcastInDim S_ ![] bcast_S_S_ (constantI S_ 32 0#32)) reduceWindows_S32_S32_w32s1p31_0 h_S_

theorem line_0 (W : Valuation τ sig (Elt F)) : (StableHlo.after hostOps0 W (Proc.tc.devRef main_v6) : IVec S32 32)
    = subi (addi (W (Proc.tc.devRef main_arg4) : IVec S32 32) (broadcastInDim S32 ![] bcast_S_S32 (constantI S_ 32 512#32))) (broadcastInDim S32 ![] bcast_S_S32 (constantI S_ 32 1#32)) := by
  after_results_simp
  all_goals rfl

theorem line_0' (W : Valuation τ sig (Elt F)) : (StableHlo.after hostOps0 W (Proc.tc.devRef main_c_1) : IVec S_ 32) = constantI S_ 32 512#32 := by
  after_results_simp
  all_goals rfl

theorem line_1 (W : Valuation τ sig (Elt F)) : (StableHlo.after hostOps0_1 W (Proc.tc.devRef main_v7) : IVec S32 32)
    = floorVec (W (Proc.tc.devRef main_v6) : IVec S32 32) (W (Proc.tc.devRef main_c_1) : IVec S_ 32) := by
  simp only [hostOps0_1, StableHlo.TRef.nullary, StableHlo.TRef.unary, StableHlo.TRef.binary, StableHlo.TRef.ternary, StableHlo.TRef.toBuf, StableHlo.TRef.ofBuf, cast_eq]
  after_results_simp
  all_goals rfl

theorem line_2 (W : Valuation τ sig (Elt F)) : (StableHlo.after hostOps0_2 W (Proc.tc.devRef main_v9) : IVec S32 32)
    = muli (W (Proc.tc.devRef main_v7) : IVec S32 32) (broadcastInDim S32 ![] bcast_S_S32 (constantI S_ 32 512#32)) := by
  after_results_simp
  all_goals rfl

theorem line_3 (W : Valuation τ sig (Elt F)) : (StableHlo.after hostOps0_3 W (Proc.tc.devRef main_v10) : IVec S32 32)
    = Host.reduceWindow IntOp.addi ![32] ![1] ![31] ![0] (W (Proc.tc.devRef main_v9) : IVec S32 32) (broadcastInDim S_ ![] bcast_S_S_ (constantI S_ 32 0#32)) reduceWindows_S32_S32_w32s1p31_0 h_S_ := by
  simp only [hostOps0_3, StableHlo.TRef.nullary, StableHlo.TRef.unary, StableHlo.TRef.binary, StableHlo.TRef.ternary, StableHlo.TRef.toBuf, StableHlo.TRef.ofBuf, cast_eq]
  after_results_simp
  all_goals rfl

theorem line_4 (W : Valuation τ sig (Elt F)) : (StableHlo.after hostOps0_4 W (Proc.tc.devRef main_v10) : IVec S32 32) = W (Proc.tc.devRef main_v10) := by
  after_results_simp
  all_goals rfl

theorem ends_eq (c : Dev nD) : ends m c = endsVec (m (c, Proc.tc.devRef main_arg4)) := by
  have h : ends m c = StableHlo.after hostOps0_4 (StableHlo.after hostOps0_3 (StableHlo.after hostOps0_2 (StableHlo.after hostOps0_1
      (StableHlo.after hostOps0 fun b => m (c, b))))) (Proc.tc.devRef main_v10) := by
    show StableHlo.after (hostOps0 ++ (hostOps0_1 ++ (hostOps0_2 ++ (hostOps0_3 ++ (hostOps0_4 ++ []))))) _ _ = _
    rw [List.append_nil, StableHlo.after_append, StableHlo.after_append, StableHlo.after_append, StableHlo.after_append]
  refine h.trans ((line_4 _).trans ((line_3 _).trans ?_))
  rw [line_2, line_1, line_0, line_0']
  rfl

/-- Each tile's expert, from the ends. -/
def expertVec (E : IVec S32 32) : IVec S160 32 :=
  minsi (Host.reduce IntOp.addi (extui 32 (cmpi .sge (broadcastInDim S32x160 ![0, 1] bcast_S1x160_S32x160_0_1 (broadcastInDim S1x160 ![1] bcast_S160_S1x160_1 (muli (iotaInDim S160 32 0) (broadcastInDim S160 ![] bcast_S_S160 (constantI S_ 32 512#32))))) (broadcastInDim S32x160 ![0, 1] bcast_S32x1_S32x160_0_1 (broadcastInDim S32x1 ![0] bcast_S32_S32x1_0 E))) natLt_1_32) (constantI S_ 32 0#32) reducesTo_S32x160_S160_d0 h_S_) (broadcastInDim S160 ![] bcast_S_S160 (constantI S_ 32 31#32))

/-- Each tile's use, from the ends. -/
def useVec (E : IVec S32 32) : IVec S160 32 :=
  extui 32 (cmpi .slt (muli (iotaInDim S160 32 0) (broadcastInDim S160 ![] bcast_S_S160 (constantI S_ 32 512#32))) (broadcastInDim S160 ![] bcast_S_S160 (shapeCast S_ (extractStridedSlice S1 ![31] E slices_S32_S1_31) shapeCasts_S1_S_))) natLt_1_32

theorem V_use (c : Dev nD) : (V m c main_v27 : IVec S160 32) = useVec (ends m c) := by
  rw [ends, V_split, V_split]
  generalize StableHlo.after (List.flatten _) _ = W
  after_results_simp
  rfl

theorem V_expert (c : Dev nD) : (V m c main_v22 : IVec S160 32) = expertVec (ends m c) := by
  rw [ends, V_split, V_split]
  generalize StableHlo.after (List.flatten _) _ = W
  after_results_simp
  rfl

theorem word_tile (k : Fin 160) : IntOp.muli (BitVec.ofNat 32 k.val) 512#32 = BitVec.ofNat 32 (512 * k.val) := by
  show BitVec.ofNat 32 k.val * BitVec.ofNat 32 512 = _
  rw [← BitVec.ofNat_mul, Nat.mul_comm]

theorem use_apply (E : IVec S32 32) (k : Fin 160) : useVec E (ix1 k) = Layout.tileUse E (ix1 k) := by
  unfold useVec
  pointwise
  show BitVec.setWidth 32 (IntOp.cmpi .slt _ _) = BitVec.setWidth 32 (IntOp.cmpi .slt _ _)
  rw [word_tile]
  rfl

theorem expert_apply (E : IVec S32 32) (k : Fin 160) : expertVec E (ix1 k) = Layout.tileExpert E (ix1 k) := by
  show IntOp.minsi (Host.reduce _ _ _ _ _ (ix1 k)) _ = IntOp.minsi _ _
  refine congrArg₂ IntOp.minsi (BitVec.eq_of_toNat_eq ?_) rfl
  refine (StableHlo.Predicate.toNat_reduce_count_rows (n := 32) (m := 160) (by decide) _ _ _ _ _).trans ?_
  rw [BitVec.toNat_ofNat, Nat.mod_eq_of_lt (lt_of_le_of_lt (Layout.before_le _ _) (by decide))]
  refine congrArg Finset.card (Finset.filter_congr fun e _ => ?_)
  have hij : (StableHlo.Predicate.ij e ((ix1 k : S160.Idx) 0) : S32x160.Idx) = ix2 e k := by
    funext a; match a with | ⟨0, _⟩ => rfl | ⟨1, _⟩ => rfl
  rw [hij]
  have hread : (cmpi .sge (broadcastInDim S32x160 ![0, 1] bcast_S1x160_S32x160_0_1 (broadcastInDim S1x160 ![1] bcast_S160_S1x160_1 (muli (iotaInDim S160 32 0) (broadcastInDim S160 ![] bcast_S_S160 (constantI S_ 32 512#32))))) (broadcastInDim S32x160 ![0, 1] bcast_S32x1_S32x160_0_1 (broadcastInDim S32x1 ![0] bcast_S32_S32x1_0 E)) : IVec S32x160 1) (ix2 e k)
      = IntOp.cmpi .sge (IntOp.muli (BitVec.ofNat 32 k.val) 512#32) (E (ix1 e)) := by
    pointwise
  rw [hread, word_tile]
  rfl

/-- Every tile's expert, and whether it is in use. -/
abbrev argE (c : Dev nD) : IVec S160 32 := Layout.tileExpert (ends m c)
abbrev argU (c : Dev nD) : IVec S160 32 := Layout.tileUse (ends m c)

/-- What is asked of the tables: experts among the 32, and use told by 0 and 1. -/
structure Chosen : Prop where
  expert : ∀ (c : Dev nD) (k : Fin 160), (argE m c (ix1 k)).toNat < 32
  use : ∀ (c : Dev nD) (k : Fin 160), argU m c (ix1 k) = 0#32 ∨ argU m c (ix1 k) = 1#32

/-- They are so whatever the counts. -/
theorem chosen : Chosen m := ⟨fun _ k => Layout.tileExpert_lt _ k, fun _ k => Layout.tileUse_cases _ k⟩

/-- The words naming each tile's block of weights, from the tiles' experts. -/
def wordVec (x : IVec S160 32) : IVec S160 32 := addi x (broadcastInDim S160 ![] bcast_S_S160 (constantI S_ 32 32#32))

/-- The words telling where the expert changes. -/
def firstVec (x : IVec S160 32) : IVec S160 32 :=
  concatenate S160 0 [⟨S1, broadcastInDim S1 ![] bcast_S_S1 (constantI S_ 32 1#32)⟩, ⟨S159, extui 32 (cmpi .ne (extractStridedSlice S159 ![1] x slices_S160_S159_1) (extractStridedSlice S159 ![0] x slices_S160_S159_0)) natLt_1_32⟩] concatenates_S1_S159_S160_d0

theorem V_word (c : Dev nD) : (V m c main_v36 : IVec S160 32) = wordVec (expertVec (ends m c)) := by
  rw [ends, V_split, V_split]
  generalize StableHlo.after (List.flatten _) _ = W
  after_results_simp
  rfl

theorem V_first (c : Dev nD) : (V m c main_v33 : IVec S160 32) = firstVec (expertVec (ends m c)) := by
  rw [ends, V_split, V_split]
  generalize StableHlo.after (List.flatten _) _ = W
  after_results_simp
  rfl

theorem first_0 (x : IVec S160 32) : firstVec x (ix1 (0 : Fin 160)) = 1#32 := by
  unfold firstVec
  pointwise

theorem first_succ (x : IVec S160 32) (k : ℕ) (hk : k + 1 < 160) : firstVec x (ix1 (⟨k + 1, hk⟩ : Fin 160))
    = BitVec.setWidth 32 (Scalar.cmpi .ne (x (ix1 (⟨k + 1, hk⟩ : Fin 160))) (x (ix1 (⟨k, by omega⟩ : Fin 160)))) := by
  unfold firstVec
  pointwise
  rw [dif_neg (by omega)]
  have h1 : (⟨1 + (k + 1 - 1), by omega⟩ : Fin 160) = ⟨k + 1, hk⟩ := Fin.ext (by show 1 + (k + 1 - 1) = k + 1; omega)
  rw [h1]
  rfl

theorem tbl_0 (k : Fin 160) : (tbl m 0 : IVec S160 32) (ix1 k) = argE m 0 (ix1 k) + 32#32 := by
  show (V m 0 main_v36 : IVec S160 32) (ix1 k) = _
  rw [V_word]
  exact congrArg (fun w : BitVec 32 => w + 32#32) (expert_apply _ k)

theorem tbl_1 (k : Fin 160) : (tbl m 1 : IVec S160 32) (ix1 k) = argU m 0 (ix1 k) := by
  show (V m 0 main_v27 : IVec S160 32) (ix1 k) = _
  rw [V_use, use_apply]

theorem tbl_2_first : (tbl m 2 : IVec S160 32) (ix1 (0 : Fin 160)) = 1#32 := by
  show (V m 0 main_v33 : IVec S160 32) (ix1 (0 : Fin 160)) = _
  rw [V_first, first_0]

theorem tbl_2 (k : ℕ) (hk : k + 1 < 160) : (tbl m 2 : IVec S160 32) (ix1 (⟨k + 1, hk⟩ : Fin 160))
    = BitVec.setWidth 32 (Scalar.cmpi .ne (argE m 0 (ix1 (⟨k + 1, hk⟩ : Fin 160))) (argE m 0 (ix1 (⟨k, by omega⟩ : Fin 160)))) := by
  show (V m 0 main_v33 : IVec S160 32) (ix1 (⟨k + 1, hk⟩ : Fin 160)) = _
  rw [V_first, first_succ, expert_apply, expert_apply]

/-! ## The words of a point -/

theorem point_lt (i : grid0.Coords) : (i 0).val < 160 := (i 0).isLt

/-- The place of a point in the tables. -/
def at0 (i : grid0.Coords) : Fin 160 := ⟨(i 0).val, point_lt i⟩

theorem place_eq (i : grid0.Coords) : (BitVec.ofNat 32 (i 0).val).toNat = (i 0).val := by
  rw [BitVec.toNat_ofNat]
  exact Nat.mod_eq_of_lt (by have := point_lt i; omega)

theorem newWord_eq (c : Dev nD) (i : grid0.Coords) : newWord c i (tbl m 2) = (tbl m 2 : IVec S160 32) (ix1 (at0 i)) := by
  show (tbl m 2 : IVec S160 32) _ = _
  refine congrArg (tbl m 2 : IVec S160 32) (funext fun a => Fin.ext ?_)
  match a with
  | ⟨0, _⟩ => exact place_eq i

theorem useWord_eq (c : Dev nD) (i : grid0.Coords) : useWord c i (tbl m 1) = argU m 0 (ix1 (at0 i)) := by
  refine Eq.trans (b := (tbl m 1 : IVec S160 32) (ix1 (at0 i))) ?_ (tbl_1 m _)
  show (tbl m 1 : IVec S160 32) _ = _
  refine congrArg (tbl m 1 : IVec S160 32) (funext fun a => Fin.ext ?_)
  match a with
  | ⟨0, _⟩ => exact place_eq i

/-- The weights' block of a point. -/
theorem expertWord_eq (i : grid0.Coords) :
    (tbl m).at 0 (Rect.unit (s := S160) (k0_off1 i) S1.size (k0_off1_inb i)) numel1_S1 = argE m 0 (ix1 (at0 i)) + 32#32 := by
  refine Eq.trans (b := (tbl m 0 : IVec S160 32) (ix1 (at0 i))) ?_ (tbl_0 m _)
  show (tbl m 0 : IVec S160 32) _ = _
  refine congrArg (tbl m 0 : IVec S160 32) (funext fun a => Fin.ext ?_)
  match a with
  | ⟨0, _⟩ => exact place_eq i

variable {m}

theorem block_toNat (hc : Chosen m) (k : Fin 160) : (argE m 0 (ix1 k) + 32#32).toNat = (argE m 0 (ix1 k)).toNat + 32 := by
  have h := hc.expert 0 k
  rw [BitVec.toNat_add]
  exact Nat.mod_eq_of_lt (by show _ + 32 < _; omega)

theorem index_1 (hc : Chosen m) (i : grid0.Coords) :
    cc0_transform_1 k0_off1_inb numel1_S1 (tbl m) i = ![(argE m 0 (ix1 (at0 i))).toNat + 32, 0, 0] := by
  rw [← block_toNat hc, ← expertWord_eq m i]
  rfl

theorem index_2 (hc : Chosen m) (i : grid0.Coords) :
    cc0_transform_2 k0_off1_inb numel1_S1 (tbl m) i = ![(argE m 0 (ix1 (at0 i))).toNat + 32, 0, 0] := by
  rw [← block_toNat hc, ← expertWord_eq m i]
  rfl

theorem index_3 (hc : Chosen m) (i : grid0.Coords) :
    cc0_transform_3 k0_off1_inb numel1_S1 (tbl m) i = ![(argE m 0 (ix1 (at0 i))).toNat + 32, 0, 0] := by
  rw [← block_toNat hc, ← expertWord_eq m i]
  rfl

/-- Every point's weights lie inside the arrays of weights. -/
theorem ok (hc : Chosen m) : Ok m := by
  refine ⟨fun i => ⟨fun a => ?_, .inl rfl⟩, fun i => ⟨fun a => ?_, .inl rfl⟩, fun i => ⟨fun a => ?_, .inl rfl⟩⟩
  all_goals have h := hc.expert 0 (at0 i)
  · rw [index_1 hc]
    match a with
    | ⟨0, _⟩ => show (_ + 32 + 1) * 1 ≤ 64; omega
    | ⟨1, _⟩ => show (0 + 1) * 1024 ≤ 1024; omega
    | ⟨2, _⟩ => show (0 + 1) * 256 ≤ 256; omega
  · rw [index_2 hc]
    match a with
    | ⟨0, _⟩ => show (_ + 32 + 1) * 1 ≤ 64; omega
    | ⟨1, _⟩ => show (0 + 1) * 1024 ≤ 1024; omega
    | ⟨2, _⟩ => show (0 + 1) * 256 ≤ 256; omega
  · rw [index_3 hc]
    match a with
    | ⟨0, _⟩ => show (_ + 32 + 1) * 1 ≤ 64; omega
    | ⟨1, _⟩ => show (0 + 1) * 256 ≤ 256; omega
    | ⟨2, _⟩ => show (0 + 1) * 1024 ≤ 1024; omega

/-! ## The blocks of weights -/

/-- The place of a point's weights among the 64 of both layers. -/
def blockOf (hc : Chosen m) (i : grid0.Coords) : Fin 64 :=
  ⟨(argE m 0 (ix1 (at0 i))).toNat + 32, by have := hc.expert 0 (at0 i); omega⟩

theorem weights_1 (hc : Chosen m) (c : Dev nD) (t : Fin (cfgM m (ok hc)).N) (d : Fin 1024) (f : Fin 256) :
    (iblk m (ok hc) c 1 t : Vec F S1x1024x256 .f32) (ix3 (0 : Fin 1) d f)
      = (V m c main_v0 : Vec F S64x1024x256 .f32) (ix3 (blockOf hc (grid0.coords t)) d f) := by
  show (V m c main_v0 : Vec F S64x1024x256 .f32) _ = _
  refine congrArg (V m c main_v0 : Vec F S64x1024x256 .f32) (funext fun a => Fin.ext ?_)
  have e := index_1 hc (grid0.coords t)
  match a with
  | ⟨0, _⟩ =>
    show cc0_transform_1 k0_off1_inb numel1_S1 (tbl m) (grid0.coords t) 0 * 1 + 1 * 0 = _
    rw [e]; show (_ + 32) * 1 + 1 * 0 = _ + 32; omega
  | ⟨1, _⟩ =>
    show cc0_transform_1 k0_off1_inb numel1_S1 (tbl m) (grid0.coords t) 1 * 1024 + 1 * d.val = _
    rw [e]; show 0 * 1024 + 1 * d.val = d.val; omega
  | ⟨2, _⟩ =>
    show cc0_transform_1 k0_off1_inb numel1_S1 (tbl m) (grid0.coords t) 2 * 256 + 1 * f.val = _
    rw [e]; show 0 * 256 + 1 * f.val = f.val; omega

theorem weights_2 (hc : Chosen m) (c : Dev nD) (t : Fin (cfgM m (ok hc)).N) (d : Fin 1024) (f : Fin 256) :
    (iblk m (ok hc) c 2 t : Vec F S1x1024x256 .f32) (ix3 (0 : Fin 1) d f)
      = (V m c main_v1 : Vec F S64x1024x256 .f32) (ix3 (blockOf hc (grid0.coords t)) d f) := by
  show (V m c main_v1 : Vec F S64x1024x256 .f32) _ = _
  refine congrArg (V m c main_v1 : Vec F S64x1024x256 .f32) (funext fun a => Fin.ext ?_)
  have e := index_2 hc (grid0.coords t)
  match a with
  | ⟨0, _⟩ =>
    show cc0_transform_2 k0_off1_inb numel1_S1 (tbl m) (grid0.coords t) 0 * 1 + 1 * 0 = _
    rw [e]; show (_ + 32) * 1 + 1 * 0 = _ + 32; omega
  | ⟨1, _⟩ =>
    show cc0_transform_2 k0_off1_inb numel1_S1 (tbl m) (grid0.coords t) 1 * 1024 + 1 * d.val = _
    rw [e]; show 0 * 1024 + 1 * d.val = d.val; omega
  | ⟨2, _⟩ =>
    show cc0_transform_2 k0_off1_inb numel1_S1 (tbl m) (grid0.coords t) 2 * 256 + 1 * f.val = _
    rw [e]; show 0 * 256 + 1 * f.val = f.val; omega

theorem weights_3 (hc : Chosen m) (c : Dev nD) (t : Fin (cfgM m (ok hc)).N) (f : Fin 256) (d : Fin 1024) :
    (iblk m (ok hc) c 3 t : Vec F S1x256x1024 .f32) (ix3 (0 : Fin 1) f d)
      = (V m c main_v2 : Vec F S64x256x1024 .f32) (ix3 (blockOf hc (grid0.coords t)) f d) := by
  show (V m c main_v2 : Vec F S64x256x1024 .f32) _ = _
  refine congrArg (V m c main_v2 : Vec F S64x256x1024 .f32) (funext fun a => Fin.ext ?_)
  have e := index_3 hc (grid0.coords t)
  match a with
  | ⟨0, _⟩ =>
    show cc0_transform_3 k0_off1_inb numel1_S1 (tbl m) (grid0.coords t) 0 * 1 + 1 * 0 = _
    rw [e]; show (_ + 32) * 1 + 1 * 0 = _ + 32; omega
  | ⟨1, _⟩ =>
    show cc0_transform_3 k0_off1_inb numel1_S1 (tbl m) (grid0.coords t) 1 * 256 + 1 * f.val = _
    rw [e]; show 0 * 256 + 1 * f.val = f.val; omega
  | ⟨2, _⟩ =>
    show cc0_transform_3 k0_off1_inb numel1_S1 (tbl m) (grid0.coords t) 2 * 1024 + 1 * d.val = _
    rw [e]; show 0 * 1024 + 1 * d.val = d.val; omega

/-! ## What the words say -/

theorem word_same (a b : BitVec 32) (h : ¬ IsNew (BitVec.setWidth 32 (Scalar.cmpi .ne a b))) : a = b := by
  by_contra hne
  refine h ?_
  have h1 : Scalar.cmpi .ne a b = 1#1 := by
    show BitVec.ofBool (a != b) = 1#1
    rw [show (a != b) = true from bne_iff_ne.2 hne]
    rfl
  rw [h1]
  decide

theorem unused_iff : ∀ w : BitVec 32, w = 0#32 ∨ w = 1#32 → (Unused w ↔ ¬ InUse w) := by
  rintro w (rfl | rfl) <;> decide

theorem coords_val (t : Fin grid0.N) : (at0 (grid0.coords t)).val = t.val :=
  (by decide +kernel : ∀ t : Fin grid0.N, ((grid0.coords t) 0).val = t.val) t

/-- Where the weights are not new the tile's expert is that of the tile before. -/
theorem same_expert (c : Dev nD) (t : Fin grid0.N) (ht : t.val ≠ 0) (t' : Fin grid0.N) (ht' : t'.val = t.val - 1)
    (h : ¬ IsNew (newWord c (grid0.coords t) (tbl m 2))) :
    argE m 0 (ix1 (at0 (grid0.coords t'))) = argE m 0 (ix1 (at0 (grid0.coords t))) := by
  have hN : grid0.N = 160 := N_0
  have hlt := t.isLt
  rw [newWord_eq] at h
  have e1 : at0 (grid0.coords t) = (⟨(t.val - 1) + 1, by omega⟩ : Fin 160) := Fin.ext (by rw [coords_val]; show t.val = t.val - 1 + 1; omega)
  have e2 : at0 (grid0.coords t') = (⟨t.val - 1, by omega⟩ : Fin 160) := Fin.ext (by rw [coords_val]; exact ht')
  rw [e1, tbl_2] at h
  rw [e1, e2]
  exact (word_same _ _ h).symm

theorem block_same (hc : Chosen m) (c : Dev nD) (t : Fin grid0.N) (ht : t.val ≠ 0) (t' : Fin grid0.N) (ht' : t'.val = t.val - 1)
    (h : ¬ IsNew (newWord c (grid0.coords t) (tbl m 2))) : blockOf hc (grid0.coords t') = blockOf hc (grid0.coords t) :=
  Fin.ext (congrArg (fun w : BitVec 32 => w.toNat + 32) (same_expert c t ht t' ht' h))

/-- Blocks of one matrix that agree at every element are equal. -/
theorem ext1 {α : Type} (x y : S1x1024x256.Idx → α) (h : ∀ (d : Fin 1024) (f : Fin 256), x (ix3 (0 : Fin 1) d f) = y (ix3 (0 : Fin 1) d f)) : x = y := by
  funext i
  have ei : i = ix3 (0 : Fin 1) (⟨(i 1).val, (i 1).isLt⟩ : Fin 1024) (⟨(i 2).val, (i 2).isLt⟩ : Fin 256) := by
    funext a; match a with
    | ⟨0, _⟩ => exact Fin.ext (Nat.lt_one_iff.1 (i 0).isLt)
    | ⟨1, _⟩ => rfl
    | ⟨2, _⟩ => rfl
  rw [ei]
  exact h _ _

theorem ext2 {α : Type} (x y : S1x256x1024.Idx → α) (h : ∀ (f : Fin 256) (d : Fin 1024), x (ix3 (0 : Fin 1) f d) = y (ix3 (0 : Fin 1) f d)) : x = y := by
  funext i
  have ei : i = ix3 (0 : Fin 1) (⟨(i 1).val, (i 1).isLt⟩ : Fin 256) (⟨(i 2).val, (i 2).isLt⟩ : Fin 1024) := by
    funext a; match a with
    | ⟨0, _⟩ => exact Fin.ext (Nat.lt_one_iff.1 (i 0).isLt)
    | ⟨1, _⟩ => rfl
    | ⟨2, _⟩ => rfl
  rw [ei]
  exact h _ _

/-- The tables say what the body needs of them. -/
theorem fed (hc : Chosen m) : Fed m (ok hc) where
  use c t := by
    rw [useWord_eq]
    exact unused_iff _ (hc.use 0 _)
  new c t ht := by
    rw [newWord_eq, show at0 (grid0.coords t) = (0 : Fin 160) from Fin.ext (by rw [coords_val]; exact ht), tbl_2_first]
    decide
  same1 c t ht h := by
    refine ext1 _ _ fun d f => (weights_1 hc c _ _ _).trans (Eq.trans ?_ (weights_1 hc c _ _ _).symm)
    rw [block_same hc c t ht (prev m (ok hc) t) rfl h]
  same2 c t ht h := by
    refine ext1 _ _ fun d f => (weights_2 hc c _ _ _).trans (Eq.trans ?_ (weights_2 hc c _ _ _).symm)
    rw [block_same hc c t ht (prev m (ok hc) t) rfl h]
  same3 c t ht h := by
    refine ext2 _ _ fun d f => (weights_3 hc c _ _ _).trans (Eq.trans ?_ (weights_3 hc c _ _ _).symm)
    rw [block_same hc c t ht (prev m (ok hc) t) rfl h]

end Cert.ExpertsIdeal.Ffn

end
-- ==== Proof.FfnBlock.lean ====
/-
  ONE TILE of the call of the chosen experts, read at an element.
-/
module

public import proofs.«01_k».proof.Proof.ExITab
public import proofs.«01_k».proof.Proof.Feed
public import proofs.«01_k».proof.Proof.Feed

@[expose] public section

set_option maxRecDepth 16384

noncomputable section

namespace Cert.ExpertsIdeal.Ffn

open Cert.ExpertsIdeal.Gen
open Idealize.ShloMosaic Idealize.ShloMosaic.TcCoe Idealize.SL.Sem

theorem pay1_apply (x : Vec Ideal S1x1024x256 .f32) (d : Fin 1024) (f : Fin 256) :
    (k0_pay1 x : Vec Ideal S1024x256 .bf16) (ix2 d f) = x (ix3 (0 : Fin 1) d f) := by
  unfold k0_pay1
  pointwise

theorem pay2_apply (x : Vec Ideal S1x1024x256 .f32) (d : Fin 1024) (f : Fin 256) :
    (k0_pay2 x : Vec Ideal S1024x256 .bf16) (ix2 d f) = x (ix3 (0 : Fin 1) d f) := by
  unfold k0_pay2
  pointwise

theorem pay3_apply (x : Vec Ideal S1x256x1024 .f32) (f : Fin 256) (d : Fin 1024) :
    (k0_pay3 x : Vec Ideal S256x1024 .bf16) (ix2 f d) = x (ix3 (0 : Fin 1) f d) := by
  unfold k0_pay3
  pointwise

/-- Row `r` of a tile, its eight lanes of 128 side by side. -/
def row8 (l0 l1 l2 l3 l4 l5 l6 l7 : Vec Ideal S512x128 .f32) (r : Fin 512) (k : Fin 1024) : EReal :=
  if h : k.val < 128 then l0 (ix2 r ⟨k.val, h⟩) else (if h : k.val - 128 < 128 then l1 (ix2 r ⟨k.val - 128, h⟩) else (if h : k.val - 128 - 128 < 128 then l2 (ix2 r ⟨k.val - 128 - 128, h⟩) else (if h : k.val - 128 - 128 - 128 < 128 then l3 (ix2 r ⟨k.val - 128 - 128 - 128, h⟩) else (if h : k.val - 128 - 128 - 128 - 128 < 128 then l4 (ix2 r ⟨k.val - 128 - 128 - 128 - 128, h⟩) else (if h : k.val - 128 - 128 - 128 - 128 - 128 < 128 then l5 (ix2 r ⟨k.val - 128 - 128 - 128 - 128 - 128, h⟩) else (if h : k.val - 128 - 128 - 128 - 128 - 128 - 128 < 128 then l6 (ix2 r ⟨k.val - 128 - 128 - 128 - 128 - 128 - 128, h⟩) else (l7 (ix2 r ⟨k.val - 128 - 128 - 128 - 128 - 128 - 128 - 128, by omega⟩))))))))

/-- One entry of the feed-forward of eight lanes. -/
theorem pay11_apply (l0 l1 l2 l3 l4 l5 l6 l7 : Vec Ideal S512x128 .f32) (s0 s1 : Vec Ideal S1024x256 .bf16) (s2 : Vec Ideal S256x1024 .bf16) (r : Fin 512) (d : Fin 1024) :
    k0_pay11 l0 l1 l2 l3 l4 l5 l6 l7 s0 s1 s2 (ix2 r d)
      = Feed.ffn (row8 l0 l1 l2 l3 l4 l5 l6 l7 r) (fun k f => s0 (ix2 k f)) (fun k f => s1 (ix2 k f)) (fun f => s2 (ix2 f d)) := by
  unfold k0_pay11 Feed.ffn Feed.hidden Feed.times row8
  pointwise

theorem lanes_eq (x : Vec Ideal S4096x128 .f32) (r : Fin 512) (k : Fin 1024)
    (h0 : 0 < 8) (h1 : 1 < 8) (h2 : 2 < 8) (h3 : 3 < 8) (h4 : 4 < 8) (h5 : 5 < 8) (h6 : 6 < 8) (h7 : 7 < 8) :
    row8 (lane x 0 h0) (lane x 1 h1) (lane x 2 h2) (lane x 3 h3) (lane x 4 h4) (lane x 5 h5) (lane x 6 h6) (lane x 7 h7) r k
      = x (ix2 (⟨8 * r.val + k.val / 128, by omega⟩ : Fin 4096) (⟨k.val % 128, by omega⟩ : Fin 128)) := by
  have e : ∀ (j : ℕ) (hj : j < 8) (q : Fin 128), j = k.val / 128 → q.val = k.val % 128 →
      lane x j hj (ix2 r q) = x (ix2 (⟨8 * r.val + k.val / 128, by omega⟩ : Fin 4096) (⟨k.val % 128, by omega⟩ : Fin 128)) := by
    intro j hj q e1 e2
    subst e1
    have hq : q = (⟨k.val % 128, by omega⟩ : Fin 128) := Fin.ext e2
    rw [hq]
    rfl
  unfold row8
  split
  · exact e _ _ _ (by omega) (by dsimp only; omega)
  split
  · exact e _ _ _ (by omega) (by dsimp only; omega)
  split
  · exact e _ _ _ (by omega) (by dsimp only; omega)
  split
  · exact e _ _ _ (by omega) (by dsimp only; omega)
  split
  · exact e _ _ _ (by omega) (by dsimp only; omega)
  split
  · exact e _ _ _ (by omega) (by dsimp only; omega)
  split
  · exact e _ _ _ (by omega) (by dsimp only; omega)
  · exact e _ _ _ (by omega) (by dsimp only; omega)

/-- One entry of a tile's feed-forward. -/
theorem feed_apply (x : Vec Ideal S4096x128 .f32) (s0 s1 : Vec Ideal S1024x256 .bf16) (s2 : Vec Ideal S256x1024 .bf16) (r : Fin 512) (d : Fin 1024) :
    feed x s0 s1 s2 (ix2 r d)
      = Feed.ffn (fun k => x (ix2 (⟨8 * r.val + k.val / 128, by omega⟩ : Fin 4096) (⟨k.val % 128, by omega⟩ : Fin 128)))
          (fun k f => s0 (ix2 k f)) (fun k f => s1 (ix2 k f)) (fun f => s2 (ix2 f d)) := by
  unfold feed
  rw [pay11_apply]
  exact congrArg (fun u => Feed.ffn u (fun k f => s0 (ix2 k f)) (fun k f => s1 (ix2 k f)) (fun f => s2 (ix2 f d)))
    (funext fun k => lanes_eq x r k _ _ _ _ _ _ _ _)

end Cert.ExpertsIdeal.Ffn

end
-- ==== Proof.FfnArray.lean ====
/-
  WHAT THE CALL OF THE CHOSEN EXPERTS LEAVES IN ITS RESULT: every tile's rows through its expert, an unused tile's zero.
-/
module

public import proofs.«01_k».proof.Proof.FfnBlock

@[expose] public section

set_option maxRecDepth 16384

noncomputable section

namespace Cert.ExpertsIdeal.Ffn

open Cert.ExpertsIdeal.Gen
open Idealize.ShloMosaic Idealize.ShloMosaic.TcCoe Idealize.SL.Sem
open Idealize.ShloMosaic.Pipeline (Dat)

variable (m : (ℓ : Loc nD τ sig) → Buf (Elt Ideal) ℓ)

/-- The rows and the weights as the memory holds them. -/
abbrev argX (c : Dev nD) : Vec Ideal S81920x1024 .f32 := m (c, Proc.tc.devRef main_arg0)
abbrev argG (c : Dev nD) : Vec Ideal S2x4x8x1024x256 .f32 := m (c, Proc.tc.devRef main_arg1)
abbrev argUp (c : Dev nD) : Vec Ideal S2x4x8x1024x256 .f32 := m (c, Proc.tc.devRef main_arg2)
abbrev argD (c : Dev nD) : Vec Ideal S2x4x8x256x1024 .f32 := m (c, Proc.tc.devRef main_arg3)

theorem gates_apply (c : Dev nD) (B : Fin 64) (d : Fin 1024) (f : Fin 256) :
    (V m c main_v0 : Vec Ideal S64x1024x256 .f32) (ix3 B d f)
      = argG m c (ix5 (⟨B.val / 32, by omega⟩ : Fin 2) (⟨B.val / 8 % 4, by omega⟩ : Fin 4) (⟨B.val % 8, by omega⟩ : Fin 8) d f) := by
  unfold V
  after_reads_at

theorem ups_apply (c : Dev nD) (B : Fin 64) (d : Fin 1024) (f : Fin 256) :
    (V m c main_v1 : Vec Ideal S64x1024x256 .f32) (ix3 B d f)
      = argUp m c (ix5 (⟨B.val / 32, by omega⟩ : Fin 2) (⟨B.val / 8 % 4, by omega⟩ : Fin 4) (⟨B.val % 8, by omega⟩ : Fin 8) d f) := by
  unfold V
  after_reads_at

theorem downs_apply (c : Dev nD) (B : Fin 64) (f : Fin 256) (d : Fin 1024) :
    (V m c main_v2 : Vec Ideal S64x256x1024 .f32) (ix3 B f d)
      = argD m c (ix5 (⟨B.val / 32, by omega⟩ : Fin 2) (⟨B.val / 8 % 4, by omega⟩ : Fin 4) (⟨B.val % 8, by omega⟩ : Fin 8) f d) := by
  unfold V
  after_reads_at

theorem rows_apply (c : Dev nD) (R : Fin 655360) (q : Fin 128) :
    (V m c main_v34 : Vec Ideal S655360x128 .f32) (ix2 R q)
      = argX m c (ix2 (⟨R.val / 8, by omega⟩ : Fin 81920) (⟨R.val % 8 * 128 + q.val, by omega⟩ : Fin 1024)) := by
  unfold V
  after_reads_at

theorem at_0 : ∀ t : Fin grid0.N, cc0_transform_0 (grid0.coords t) = ![t.val, 0] :=
  (by decide +kernel : ∀ t : Fin grid0.N, cc0_transform_0 (grid0.coords t) = ![t.val, 0])

theorem at_4 : ∀ t : Fin grid0.N, cc0_transform_4 (grid0.coords t) = ![t.val, 0] :=
  (by decide +kernel : ∀ t : Fin grid0.N, cc0_transform_4 (grid0.coords t) = ![t.val, 0])

variable {m} (hc : Chosen m)

theorem NM_eq : (cfgM m (ok hc)).N = 160 := N_0

/-- The rows of a tile. -/
theorem rows_0 (c : Dev nD) (t : Fin (cfgM m (ok hc)).N) (r : Fin 4096) (q : Fin 128) :
    (iblk m (ok hc) c 0 t : Vec Ideal S4096x128 .f32) (ix2 r q)
      = argX m c (ix2 (⟨512 * t.val + r.val / 8, by have := NM_eq hc; have := t.isLt; omega⟩ : Fin 81920) (⟨r.val % 8 * 128 + q.val, by omega⟩ : Fin 1024)) := by
  have hN := NM_eq hc
  have ht := t.isLt
  refine Eq.trans (b := (V m c main_v34 : Vec Ideal S655360x128 .f32) (ix2 (⟨4096 * t.val + r.val, by omega⟩ : Fin 655360) q)) ?_ ?_
  · show (V m c main_v34 : Vec Ideal S655360x128 .f32) _ = _
    refine congrArg (V m c main_v34 : Vec Ideal S655360x128 .f32) (funext fun a => Fin.ext ?_)
    match a with
    | ⟨0, _⟩ =>
      show cc0_transform_0 (grid0.coords t) 0 * 4096 + 1 * r.val = 4096 * t.val + r.val
      rw [at_0 t]; show t.val * 4096 + 1 * r.val = _; omega
    | ⟨1, _⟩ =>
      show cc0_transform_0 (grid0.coords t) 1 * 128 + 1 * q.val = q.val
      rw [at_0 t]; show 0 * 128 + 1 * q.val = _; omega
  · rw [rows_apply]
    refine congrArg (argX m c) (funext fun a => Fin.ext ?_)
    match a with
    | ⟨0, _⟩ => show (4096 * t.val + r.val) / 8 = 512 * t.val + r.val / 8; omega
    | ⟨1, _⟩ => show (4096 * t.val + r.val) % 8 * 128 + q.val = r.val % 8 * 128 + q.val; omega

/-- The word of the tile a grid point works on. -/
abbrev wordE (t : Fin (cfgM m (ok hc)).N) : BitVec 32 := argE m 0 (ix1 (at0 (grid0.coords t)))

/-- A point's weights are its tile's expert's. -/
theorem gate_1 (c : Dev nD) (t : Fin (cfgM m (ok hc)).N) (d : Fin 1024) (f : Fin 256) :
    (iblk m (ok hc) c 1 t : Vec Ideal S1x1024x256 .f32) (ix3 (0 : Fin 1) d f)
      = argG m c (ix5 (1 : Fin 2) (Feed.groupOf (wordE hc t)) (Feed.memberOf (wordE hc t)) d f) := by
  have h := hc.expert 0 (at0 (grid0.coords t))
  rw [weights_1 hc, gates_apply]
  refine congrArg (argG m c) (funext fun a => Fin.ext ?_)
  match a with
  | ⟨0, _⟩ => show ((argE m 0 (ix1 (at0 (grid0.coords t)))).toNat + 32) / 32 = 1; omega
  | ⟨1, _⟩ => show ((argE m 0 (ix1 (at0 (grid0.coords t)))).toNat + 32) / 8 % 4 = (argE m 0 (ix1 (at0 (grid0.coords t)))).toNat / 8 % 4; omega
  | ⟨2, _⟩ => show ((argE m 0 (ix1 (at0 (grid0.coords t)))).toNat + 32) % 8 = (argE m 0 (ix1 (at0 (grid0.coords t)))).toNat % 8; omega
  | ⟨3, _⟩ => rfl
  | ⟨4, _⟩ => rfl

theorem up_2 (c : Dev nD) (t : Fin (cfgM m (ok hc)).N) (d : Fin 1024) (f : Fin 256) :
    (iblk m (ok hc) c 2 t : Vec Ideal S1x1024x256 .f32) (ix3 (0 : Fin 1) d f)
      = argUp m c (ix5 (1 : Fin 2) (Feed.groupOf (wordE hc t)) (Feed.memberOf (wordE hc t)) d f) := by
  have h := hc.expert 0 (at0 (grid0.coords t))
  rw [weights_2 hc, ups_apply]
  refine congrArg (argUp m c) (funext fun a => Fin.ext ?_)
  match a with
  | ⟨0, _⟩ => show ((argE m 0 (ix1 (at0 (grid0.coords t)))).toNat + 32) / 32 = 1; omega
  | ⟨1, _⟩ => show ((argE m 0 (ix1 (at0 (grid0.coords t)))).toNat + 32) / 8 % 4 = (argE m 0 (ix1 (at0 (grid0.coords t)))).toNat / 8 % 4; omega
  | ⟨2, _⟩ => show ((argE m 0 (ix1 (at0 (grid0.coords t)))).toNat + 32) % 8 = (argE m 0 (ix1 (at0 (grid0.coords t)))).toNat % 8; omega
  | ⟨3, _⟩ => rfl
  | ⟨4, _⟩ => rfl

theorem down_3 (c : Dev nD) (t : Fin (cfgM m (ok hc)).N) (f : Fin 256) (d : Fin 1024) :
    (iblk m (ok hc) c 3 t : Vec Ideal S1x256x1024 .f32) (ix3 (0 : Fin 1) f d)
      = argD m c (ix5 (1 : Fin 2) (Feed.groupOf (wordE hc t)) (Feed.memberOf (wordE hc t)) f d) := by
  have h := hc.expert 0 (at0 (grid0.coords t))
  rw [weights_3 hc, downs_apply]
  refine congrArg (argD m c) (funext fun a => Fin.ext ?_)
  match a with
  | ⟨0, _⟩ => show ((argE m 0 (ix1 (at0 (grid0.coords t)))).toNat + 32) / 32 = 1; omega
  | ⟨1, _⟩ => show ((argE m 0 (ix1 (at0 (grid0.coords t)))).toNat + 32) / 8 % 4 = (argE m 0 (ix1 (at0 (grid0.coords t)))).toNat / 8 % 4; omega
  | ⟨2, _⟩ => show ((argE m 0 (ix1 (at0 (grid0.coords t)))).toNat + 32) % 8 = (argE m 0 (ix1 (at0 (grid0.coords t)))).toNat % 8; omega
  | ⟨3, _⟩ => rfl
  | ⟨4, _⟩ => rfl

/-- The whole result. -/
abbrev whole (c : Dev nD) : Vec Ideal S655360x128 .f32 :=
  Feed.fedRows (argX m c) (argG m c) (argUp m c) (argD m c) (argE m 0) (argU m 0)

theorem used_iff : ∀ w : BitVec 32, w = 0#32 ∨ w = 1#32 → (InUse w ↔ w = 1#32) := by
  rintro w (rfl | rfl) <;> decide

/-- One entry of what a point leaves. -/
theorem point_apply (c : Dev nD) (t : Fin (cfgM m (ok hc)).N) (r : Fin 4096) (q : Fin 128) :
    outAt m (ok hc) c t (ix2 r q)
      = Feed.entry (argX m c) (argG m c) (argUp m c) (argD m c) (argE m 0) (argU m 0)
          (⟨512 * t.val + r.val / 8, by have := NM_eq hc; have := t.isLt; omega⟩ : Fin 81920) (⟨128 * (r.val % 8) + q.val, by omega⟩ : Fin 1024) := by
  have hN := NM_eq hc
  have ht := t.isLt
  have hk : (⟨(512 * t.val + r.val / 8) / 512, by omega⟩ : Fin 160) = at0 (grid0.coords t) :=
    Fin.ext ((show (512 * t.val + r.val / 8) / 512 = t.val by omega).trans (coords_val t).symm)
  unfold outAt Feed.entry
  rw [useWord_eq]
  simp only [hk]
  by_cases hu : argU m 0 (ix1 (at0 (grid0.coords t))) = 1#32
  · rw [if_pos hu, if_pos ((used_iff _ (hc.use 0 _)).2 hu)]
    show feed _ _ _ _ (ix2 (⟨r.val / 8, by omega⟩ : Fin 512) (⟨128 * (r.val % 8) + q.val, by omega⟩ : Fin 1024)) = _
    refine (feed_apply _ _ _ _ _ _).trans ?_
    have e0 : (fun k : Fin 1024 => (iblk m (ok hc) c 0 t : Vec Ideal S4096x128 .f32) (ix2 (⟨8 * (r.val / 8) + k.val / 128, by omega⟩ : Fin 4096) (⟨k.val % 128, by omega⟩ : Fin 128)))
        = fun k => argX m c (ix2 (⟨512 * t.val + r.val / 8, by omega⟩ : Fin 81920) k) := by
      funext k
      rw [rows_0 hc]
      refine congrArg (argX m c) (funext fun a => Fin.ext ?_)
      match a with
      | ⟨0, _⟩ => show 512 * t.val + (8 * (r.val / 8) + k.val / 128) / 8 = 512 * t.val + r.val / 8; omega
      | ⟨1, _⟩ => show (8 * (r.val / 8) + k.val / 128) % 8 * 128 + k.val % 128 = k.val; omega
    have e1 : (fun (k : Fin 1024) (f : Fin 256) => (k0_pay1 (iblk m (ok hc) c 1 t : Vec Ideal S1x1024x256 .f32) : Vec Ideal S1024x256 .bf16) (ix2 k f))
        = fun k f => argG m c (ix5 (1 : Fin 2) (Feed.groupOf (wordE hc t)) (Feed.memberOf (wordE hc t)) k f) :=
      funext fun k => funext fun f => (pay1_apply _ k f).trans (gate_1 hc c t k f)
    have e2 : (fun (k : Fin 1024) (f : Fin 256) => (k0_pay2 (iblk m (ok hc) c 2 t : Vec Ideal S1x1024x256 .f32) : Vec Ideal S1024x256 .bf16) (ix2 k f))
        = fun k f => argUp m c (ix5 (1 : Fin 2) (Feed.groupOf (wordE hc t)) (Feed.memberOf (wordE hc t)) k f) :=
      funext fun k => funext fun f => (pay2_apply _ k f).trans (up_2 hc c t k f)
    have e3 : (fun (f : Fin 256) => (k0_pay3 (iblk m (ok hc) c 3 t : Vec Ideal S1x256x1024 .f32) : Vec Ideal S256x1024 .bf16) (ix2 f (⟨128 * (r.val % 8) + q.val, by omega⟩ : Fin 1024)))
        = fun f => argD m c (ix5 (1 : Fin 2) (Feed.groupOf (wordE hc t)) (Feed.memberOf (wordE hc t)) f (⟨128 * (r.val % 8) + q.val, by omega⟩ : Fin 1024)) :=
      funext fun f => (pay3_apply _ f _).trans (down_3 hc c t f _)
    exact (congrArg (fun u => Feed.ffn u _ _ _) e0).trans ((congrArg (fun u => Feed.ffn _ u _ _) e1).trans
      ((congrArg (fun u => Feed.ffn _ _ u _) e2).trans (congrArg (fun u => Feed.ffn _ _ _ u) e3)))
  · rw [if_neg hu, if_neg fun h => hu ((used_iff _ (hc.use 0 _)).1 h)]
    unfold k0_pay10
    pointwise

/-- An element of a point's block of an array laid out as the result. -/
theorem read_blk (G : Vec Ideal S655360x128 .f32) (t : Fin (cfgM m (ok hc)).N) (x : S4096x128.Idx) :
    ((((cfgM m (ok hc)).win 4).blk t).view.read (Elt Ideal) G : Vec Ideal S4096x128 .f32) x
      = G (ix2 (⟨4096 * t.val + (x 0).val, by have := NM_eq hc; have := t.isLt; have h : (x 0).val < 4096 := (x 0).isLt; omega⟩ : Fin 655360) (⟨(x 1).val, (x 1).isLt⟩ : Fin 128)) := by
  show G _ = G _
  refine congrArg G (funext fun a => Fin.ext ?_)
  match a with
  | ⟨0, _⟩ =>
    have e0 : cc0_transform_4 (grid0.coords t) 0 = t.val := by rw [at_4 t]; rfl
    show cc0_transform_4 (grid0.coords t) 0 * 4096 + 1 * (x 0).val = 4096 * t.val + (x 0).val
    rw [e0]; omega
  | ⟨1, _⟩ =>
    have e1 : cc0_transform_4 (grid0.coords t) 1 = 0 := by rw [at_4 t]; rfl
    show cc0_transform_4 (grid0.coords t) 1 * 128 + 1 * (x 1).val = (x 1).val
    rw [e1]; omega

theorem fed_apply (x : FVec Ideal Feed.RowsS .f32) (a1 a3 : FVec Ideal Feed.InS .f32) (a2 : FVec Ideal Feed.BackS .f32) (te tv : IVec Feed.TileS 32)
    (r : Fin 655360) (q : Fin 128) :
    Feed.fedRows x a1 a3 a2 te tv (ix2 r q)
      = Feed.entry x a1 a3 a2 te tv ⟨r.val / 8, by omega⟩ ⟨128 * (r.val % 8) + q.val, by omega⟩ := rfl

theorem entry_same (x : FVec Ideal Feed.RowsS .f32) (a1 a3 : FVec Ideal Feed.InS .f32) (a2 : FVec Ideal Feed.BackS .f32) (te tv : IVec Feed.TileS 32)
    {T T' : Fin 81920} {d d' : Fin 1024} (hT : T.val = T'.val) (hd : d.val = d'.val) :
    Feed.entry x a1 a3 a2 te tv T d = Feed.entry x a1 a3 a2 te tv T' d' := by
  obtain rfl := Fin.ext hT
  obtain rfl := Fin.ext hd
  rfl

/-- What a point writes back is its block of the whole result. -/
theorem flushed_eq (c : Dev nD) (t : Fin (cfgM m (ok hc)).N) :
    (dats m (ok hc) 0 c).flushed 4 t = (((cfgM m (ok hc)).win 4).blk t).view.read (Elt Ideal) (whole (m := m) c) := by
  have hN := NM_eq hc
  have ht := t.isLt
  refine Eq.trans (b := ((cfgM m (ok hc)).win 4).cut (grid0.coords t) (outAt m (ok hc) c t)) ?_ ?_
  · show ((cfgM m (ok hc)).win 4).cut (grid0.coords t) ((dats m (ok hc) 0 c).after 4 t) = _
    rw [after0_4]
  refine funext fun (x : S4096x128.Idx) => ?_
  obtain ⟨r, hr⟩ : ∃ r : Fin 4096, r.val = (x 0).val := ⟨⟨(x 0).val, (x 0).isLt⟩, rfl⟩
  obtain ⟨q, hq⟩ : ∃ q : Fin 128, q.val = (x 1).val := ⟨⟨(x 1).val, (x 1).isLt⟩, rfl⟩
  refine Eq.trans ?_ ((point_apply hc c t r q).trans ?_)
  · show outAt m (ok hc) c t _ = _
    refine congrArg (outAt m (ok hc) c t) (funext fun a => Fin.ext ?_)
    match a with
    | ⟨0, _⟩ => exact hr.symm
    | ⟨1, _⟩ => exact hq.symm
  · have hx : x = ix2 r q := funext fun a => Fin.ext (by
      match a with
      | ⟨0, _⟩ => exact hr.symm
      | ⟨1, _⟩ => exact hq.symm)
    refine Eq.trans ?_ (read_blk hc _ t x).symm
    subst hx
    refine Eq.trans ?_ (fed_apply _ _ _ _ _ _ _ _).symm
    exact entry_same _ _ _ _ _ _ (show 512 * t.val + r.val / 8 = (4096 * t.val + r.val) / 8 by omega)
      (show 128 * (r.val % 8) + q.val = 128 * ((4096 * t.val + r.val) % 8) + q.val by omega)

/-- An index of the result lies in the block of the point its row names. -/
theorem mem_blk (t : Fin (cfgM m (ok hc)).N) (i : S655360x128.Idx) (h : 4096 * t.val ≤ (i 0).val ∧ (i 0).val < 4096 * t.val + 4096) :
    i ∈ (((cfgM m (ok hc)).win 4).blk t).view.set := by
  have hN := NM_eq hc
  have ht := t.isLt
  have inb : ∀ a : Fin 2, cc0_transform_4 (grid0.coords t) a * S4096x128.size a + S4096x128.size a ≤ S655360x128.size a := fun a => by
    rw [at_4 t]
    match a with
    | ⟨0, _⟩ => show t.val * 4096 + 4096 ≤ 655360; omega
    | ⟨1, _⟩ => show 0 * 128 + 128 ≤ 128; omega
  show i ∈ ((View.whole main_v37).slice (Rect.unit (s := S655360x128) (fun a => cc0_transform_4 (grid0.coords t) a * S4096x128.size a) S4096x128.size inb)).set
  rw [View.set_slice_whole, Rect.mem_set_unit]
  have h1 : (i 1 : Nat) < 128 := (i 1).isLt
  have e0 : cc0_transform_4 (grid0.coords t) 0 = t.val := by rw [at_4 t]; rfl
  have e1 : cc0_transform_4 (grid0.coords t) 1 = 0 := by rw [at_4 t]; rfl
  intro a
  match a with
  | ⟨0, _⟩ =>
    show cc0_transform_4 (grid0.coords t) 0 * 4096 ≤ (i 0 : Nat)
      ∧ (i 0 : Nat) < cc0_transform_4 (grid0.coords t) 0 * 4096 + 4096
    rw [e0]; omega
  | ⟨1, _⟩ =>
    show cc0_transform_4 (grid0.coords t) 1 * 128 ≤ (i 1 : Nat)
      ∧ (i 1 : Nat) < cc0_transform_4 (grid0.coords t) 1 * 128 + 128
    rw [e1]; omega

/-- The blocks tile the result. -/
theorem cover (i : S655360x128.Idx) :
    ∃ t : Fin (cfgM m (ok hc)).N, ((cfgM m (ok hc)).win 4).flush t = true ∧ i ∈ (((cfgM m (ok hc)).win 4).blk t).view.set := by
  have h0 : (i 0 : Nat) < 655360 := (i 0).isLt
  have hN := NM_eq hc
  refine ⟨⟨(i 0).val / 4096, by omega⟩, flush0_4 _ _, mem_blk hc _ _ ?_⟩
  dsimp only
  omega

/-- So the result array ends holding the whole result, -/
theorem final (c : Dev nD) : (dats m (ok hc) 0 c).arrAt 4 (cfgM m (ok hc)).N = whole (m := m) c :=
  (dats m (ok hc) 0 c).arrAt_eq_of_cover 4 (whole (m := m) c) (fun t _ => flushed_eq hc c t) (cover hc)

include hc in
/-- and the run leaves it there, with the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v37) = whole (m := m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (final hc c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok hc) (fed hc))

end Cert.ExpertsIdeal.Ffn

end
-- ==== Proof.FfnRef.lean ====
/-
  THE REFERENCE of the chosen experts, cut into the stages its lines compute.
-/
module

public import proofs.«01_k».proof.Proof.Gen.ExpertsReferenceIdeal.Run
public import Idealize.ShloMosaic.PureOps.Ideal

@[expose] public section

set_option maxRecDepth 16384

noncomputable section

namespace Cert.FfnRef

open Idealize.ShloMosaic Idealize.ShloMosaic.TcCoe Idealize.SL.Sem
open Cert.ExpertsReferenceIdeal Cert.ExpertsReferenceIdeal.Gen

/-- The second layer's gate weights of group 0. -/
def gateW0 (a1 : FVec Ideal S2x4x8x1024x256 .f32) : FVec Ideal S8x1024x256 .f32 :=
  shapeCast _ (extractStridedSlice S1x8x1024x256 ![0, 0, 0, 0] (shapeCast _ (extractStridedSlice S1x4x8x1024x256 ![1, 0, 0, 0, 0] a1 slices_S2x4x8x1024x256_S1x4x8x1024x256_1_0_0_0_0) shapeCasts_S1x4x8x1024x256_S4x8x1024x256) slices_S4x8x1024x256_S1x8x1024x256_0_0_0_0) shapeCasts_S1x8x1024x256_S8x1024x256

/-- The second layer's up weights of group 0. -/
def upW0 (a3 : FVec Ideal S2x4x8x1024x256 .f32) : FVec Ideal S8x1024x256 .f32 :=
  shapeCast _ (extractStridedSlice S1x8x1024x256 ![0, 0, 0, 0] (shapeCast _ (extractStridedSlice S1x4x8x1024x256 ![1, 0, 0, 0, 0] a3 slices_S2x4x8x1024x256_S1x4x8x1024x256_1_0_0_0_0) shapeCasts_S1x4x8x1024x256_S4x8x1024x256) slices_S4x8x1024x256_S1x8x1024x256_0_0_0_0) shapeCasts_S1x8x1024x256_S8x1024x256

/-- The second layer's down weights of group 0. -/
def downW0 (a2 : FVec Ideal S2x4x8x256x1024 .f32) : FVec Ideal S8x256x1024 .f32 :=
  shapeCast _ (extractStridedSlice S1x8x256x1024 ![0, 0, 0, 0] (shapeCast _ (extractStridedSlice S1x4x8x256x1024 ![1, 0, 0, 0, 0] a2 slices_S2x4x8x256x1024_S1x4x8x256x1024_1_0_0_0_0) shapeCasts_S1x4x8x256x1024_S4x8x256x1024) slices_S4x8x256x1024_S1x8x256x1024_0_0_0_0) shapeCasts_S1x8x256x1024_S8x256x1024

/-- The second layer's gate weights of group 1. -/
def gateW1 (a1 : FVec Ideal S2x4x8x1024x256 .f32) : FVec Ideal S8x1024x256 .f32 :=
  shapeCast _ (extractStridedSlice S1x8x1024x256 ![1, 0, 0, 0] (shapeCast _ (extractStridedSlice S1x4x8x1024x256 ![1, 0, 0, 0, 0] a1 slices_S2x4x8x1024x256_S1x4x8x1024x256_1_0_0_0_0) shapeCasts_S1x4x8x1024x256_S4x8x1024x256) slices_S4x8x1024x256_S1x8x1024x256_1_0_0_0) shapeCasts_S1x8x1024x256_S8x1024x256

/-- The second layer's up weights of group 1. -/
def upW1 (a3 : FVec Ideal S2x4x8x1024x256 .f32) : FVec Ideal S8x1024x256 .f32 :=
  shapeCast _ (extractStridedSlice S1x8x1024x256 ![1, 0, 0, 0] (shapeCast _ (extractStridedSlice S1x4x8x1024x256 ![1, 0, 0, 0, 0] a3 slices_S2x4x8x1024x256_S1x4x8x1024x256_1_0_0_0_0) shapeCasts_S1x4x8x1024x256_S4x8x1024x256) slices_S4x8x1024x256_S1x8x1024x256_1_0_0_0) shapeCasts_S1x8x1024x256_S8x1024x256

/-- The second layer's down weights of group 1. -/
def downW1 (a2 : FVec Ideal S2x4x8x256x1024 .f32) : FVec Ideal S8x256x1024 .f32 :=
  shapeCast _ (extractStridedSlice S1x8x256x1024 ![1, 0, 0, 0] (shapeCast _ (extractStridedSlice S1x4x8x256x1024 ![1, 0, 0, 0, 0] a2 slices_S2x4x8x256x1024_S1x4x8x256x1024_1_0_0_0_0) shapeCasts_S1x4x8x256x1024_S4x8x256x1024) slices_S4x8x256x1024_S1x8x256x1024_1_0_0_0) shapeCasts_S1x8x256x1024_S8x256x1024

/-- The second layer's gate weights of group 2. -/
def gateW2 (a1 : FVec Ideal S2x4x8x1024x256 .f32) : FVec Ideal S8x1024x256 .f32 :=
  shapeCast _ (extractStridedSlice S1x8x1024x256 ![2, 0, 0, 0] (shapeCast _ (extractStridedSlice S1x4x8x1024x256 ![1, 0, 0, 0, 0] a1 slices_S2x4x8x1024x256_S1x4x8x1024x256_1_0_0_0_0) shapeCasts_S1x4x8x1024x256_S4x8x1024x256) slices_S4x8x1024x256_S1x8x1024x256_2_0_0_0) shapeCasts_S1x8x1024x256_S8x1024x256

/-- The second layer's up weights of group 2. -/
def upW2 (a3 : FVec Ideal S2x4x8x1024x256 .f32) : FVec Ideal S8x1024x256 .f32 :=
  shapeCast _ (extractStridedSlice S1x8x1024x256 ![2, 0, 0, 0] (shapeCast _ (extractStridedSlice S1x4x8x1024x256 ![1, 0, 0, 0, 0] a3 slices_S2x4x8x1024x256_S1x4x8x1024x256_1_0_0_0_0) shapeCasts_S1x4x8x1024x256_S4x8x1024x256) slices_S4x8x1024x256_S1x8x1024x256_2_0_0_0) shapeCasts_S1x8x1024x256_S8x1024x256

/-- The second layer's down weights of group 2. -/
def downW2 (a2 : FVec Ideal S2x4x8x256x1024 .f32) : FVec Ideal S8x256x1024 .f32 :=
  shapeCast _ (extractStridedSlice S1x8x256x1024 ![2, 0, 0, 0] (shapeCast _ (extractStridedSlice S1x4x8x256x1024 ![1, 0, 0, 0, 0] a2 slices_S2x4x8x256x1024_S1x4x8x256x1024_1_0_0_0_0) shapeCasts_S1x4x8x256x1024_S4x8x256x1024) slices_S4x8x256x1024_S1x8x256x1024_2_0_0_0) shapeCasts_S1x8x256x1024_S8x256x1024

/-- The second layer's gate weights of group 3. -/
def gateW3 (a1 : FVec Ideal S2x4x8x1024x256 .f32) : FVec Ideal S8x1024x256 .f32 :=
  shapeCast _ (extractStridedSlice S1x8x1024x256 ![3, 0, 0, 0] (shapeCast _ (extractStridedSlice S1x4x8x1024x256 ![1, 0, 0, 0, 0] a1 slices_S2x4x8x1024x256_S1x4x8x1024x256_1_0_0_0_0) shapeCasts_S1x4x8x1024x256_S4x8x1024x256) slices_S4x8x1024x256_S1x8x1024x256_3_0_0_0) shapeCasts_S1x8x1024x256_S8x1024x256

/-- The second layer's up weights of group 3. -/
def upW3 (a3 : FVec Ideal S2x4x8x1024x256 .f32) : FVec Ideal S8x1024x256 .f32 :=
  shapeCast _ (extractStridedSlice S1x8x1024x256 ![3, 0, 0, 0] (shapeCast _ (extractStridedSlice S1x4x8x1024x256 ![1, 0, 0, 0, 0] a3 slices_S2x4x8x1024x256_S1x4x8x1024x256_1_0_0_0_0) shapeCasts_S1x4x8x1024x256_S4x8x1024x256) slices_S4x8x1024x256_S1x8x1024x256_3_0_0_0) shapeCasts_S1x8x1024x256_S8x1024x256

/-- The second layer's down weights of group 3. -/
def downW3 (a2 : FVec Ideal S2x4x8x256x1024 .f32) : FVec Ideal S8x256x1024 .f32 :=
  shapeCast _ (extractStridedSlice S1x8x256x1024 ![3, 0, 0, 0] (shapeCast _ (extractStridedSlice S1x4x8x256x1024 ![1, 0, 0, 0, 0] a2 slices_S2x4x8x256x1024_S1x4x8x256x1024_1_0_0_0_0) shapeCasts_S1x4x8x256x1024_S4x8x256x1024) slices_S4x8x256x1024_S1x8x256x1024_3_0_0_0) shapeCasts_S1x8x256x1024_S8x256x1024

/-- The experts' shares, each rounded up to whole tiles of 512. -/
def sharesVec (counts : IVec S32 32) : IVec S32 32 :=
  muli (select (andi (cmpi .ne (signi (subi (addi counts (broadcastInDim S32 ![] bcast_S_S32 (constantI S_ 32 512#32))) (broadcastInDim S32 ![] bcast_S_S32 (constantI S_ 32 1#32)))) (broadcastInDim S32 ![] bcast_S_S32 (signi (id (constantI S_ 32 512#32))))) (cmpi .ne (Host.remsi (subi (addi counts (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 0#32)))) (subi (Host.divsi (subi (addi counts (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 1#32))) (Host.divsi (subi (addi counts (broadcastInDim S32 ![] bcast_S_S32 (constantI S_ 32 512#32))) (broadcastInDim S32 ![] bcast_S_S32 (constantI S_ 32 1#32))) (broadcastInDim S32 ![] bcast_S_S32 (id (constantI S_ 32 512#32))))) (broadcastInDim S32 ![] bcast_S_S32 (constantI S_ 32 512#32))

/-- Their ends: the shares summed. -/
def endsVec (counts : IVec S32 32) : IVec S32 32 :=
  Host.reduceWindow IntOp.addi ![32] ![1] ![31] ![0] (sharesVec counts) (broadcastInDim S_ ![] bcast_S_S_ (constantI S_ 32 0#32)) reduceWindows_S32_S32_w32s1p31_0 h_S_

/-- Each row's expert: how many shares end at or before it. -/
def ownerVec (E : IVec S32 32) : IVec S81920 32 :=
  Host.reduce IntOp.addi (extui 32 (cmpi .sge (broadcastInDim S81920x32 ![0, 1] bcast_S81920x1_S81920x32_0_1 (broadcastInDim S81920x1 ![0] bcast_S81920_S81920x1_0 (iotaInDim S81920 32 0))) (broadcastInDim S81920x32 ![0, 1] bcast_S1x32_S81920x32_0_1 (broadcastInDim S1x32 ![1] bcast_S32_S1x32_1 E))) natLt_1_32) (constantI S_ 32 0#32) reducesTo_S81920x32_S81920_d1 h_S_

/-- What each row takes of each expert: one of its own, nothing of any other; and nothing of any after the last share. -/
def chosenVec (E : IVec S32 32) : FVec Ideal S81920x4x8 .f32 :=
  shapeCast _ (mulf (uitofp .f32 (cmpi .eq (broadcastInDim S81920x32 ![0, 1] bcast_S81920x1_S81920x32_0_1 (broadcastInDim S81920x1 ![0] bcast_S81920_S81920x1_0 (ownerVec E))) (broadcastInDim S81920x32 ![0, 1] bcast_S1x32_S81920x32_0_1 (iotaInDim S1x32 32 1)))) (broadcastInDim S81920x32 ![0, 1] bcast_S81920x1_S81920x32_0_1 (broadcastInDim S81920x1 ![0] bcast_S81920_S81920x1_0 (uitofp .f32 (cmpi .slt (iotaInDim S81920 32 0) (broadcastInDim S81920 ![] bcast_S_S81920 (shapeCast S_ (extractStridedSlice S1 ![31] E slices_S32_S1_31) shapeCasts_S1_S_))))))) shapeCasts_S81920x32_S81920x4x8

/-- The same of group 0. -/
def chosen0 (E : IVec S32 32) : FVec Ideal S81920x8 .f32 :=
  shapeCast _ (extractStridedSlice S81920x1x8 ![0, 0, 0] (chosenVec E) slices_S81920x4x8_S81920x1x8_0_0_0) shapeCasts_S81920x1x8_S81920x8

/-- The same of group 1. -/
def chosen1 (E : IVec S32 32) : FVec Ideal S81920x8 .f32 :=
  shapeCast _ (extractStridedSlice S81920x1x8 ![0, 1, 0] (chosenVec E) slices_S81920x4x8_S81920x1x8_0_1_0) shapeCasts_S81920x1x8_S81920x8

/-- The same of group 2. -/
def chosen2 (E : IVec S32 32) : FVec Ideal S81920x8 .f32 :=
  shapeCast _ (extractStridedSlice S81920x1x8 ![0, 2, 0] (chosenVec E) slices_S81920x4x8_S81920x1x8_0_2_0) shapeCasts_S81920x1x8_S81920x8

/-- The same of group 3. -/
def chosen3 (E : IVec S32 32) : FVec Ideal S81920x8 .f32 :=
  shapeCast _ (extractStridedSlice S81920x1x8 ![0, 3, 0] (chosenVec E) slices_S81920x4x8_S81920x1x8_0_3_0) shapeCasts_S81920x1x8_S81920x8

/-- The rows multiplied with a group's weights. -/
def projVec (x : FVec Ideal S81920x1024 .f32) (w1 : FVec Ideal S8x1024x256 .f32) : FVec Ideal S81920x8x256 .f32 :=
  Host.dotGeneral dot_S81920x1024_S8x1024x256_S81920x8x256_1_1_0_02_n_n none x w1

/-- A group's hidden values, weighted by what the rows take of its experts. -/
def hidVec (x : FVec Ideal S81920x1024 .f32) (w1 w3 : FVec Ideal S8x1024x256 .f32) (ch : FVec Ideal S81920x8 .f32) : FVec Ideal S81920x8x256 .f32 :=
  mulf (mulf (mulf (projVec x w1) (Host.divf (broadcastInDim S81920x8x256 ![] bcast_S_S81920x8x256 (constant S_ .f32 0x3F800000#32)) (addf (broadcastInDim S81920x8x256 ![] bcast_S_S81920x8x256 (constant S_ .f32 0x3F800000#32)) (Host.exp (Host.negf (projVec x w1)))))) (projVec x w3)) (broadcastInDim S81920x8x256 ![0, 1, 2] bcast_S81920x8x1_S81920x8x256_0_1_2 (broadcastInDim S81920x8x1 ![0, 1] bcast_S81920x8_S81920x8x1_0_1 ch))

/-- A group's share of the result. -/
def groupVec (x : FVec Ideal S81920x1024 .f32) (w1 w3 : FVec Ideal S8x1024x256 .f32) (ch : FVec Ideal S81920x8 .f32) (w2 : FVec Ideal S8x256x1024 .f32) : FVec Ideal S81920x1024 .f32 :=
  Host.dotGeneral dot_S81920x8x256_S8x256x1024_S81920x1024_12_01_0_2_n_n none (hidVec x w1 w3 ch) w2

/-- The reference's result. -/
def outVec (x : FVec Ideal S81920x1024 .f32) (a1 a3 : FVec Ideal S2x4x8x1024x256 .f32) (a2 : FVec Ideal S2x4x8x256x1024 .f32) (E : IVec S32 32) : FVec Ideal S655360x128 .f32 :=
  shapeCast _ (addf (addf (addf (addf (broadcastInDim S81920x1024 ![] bcast_S_S81920x1024 (constant S_ .f32 0x00000000#32)) (groupVec x (gateW0 a1) (upW0 a3) (chosen0 E) (downW0 a2))) (groupVec x (gateW1 a1) (upW1 a3) (chosen1 E) (downW1 a2))) (groupVec x (gateW2 a1) (upW2 a3) (chosen2 E) (downW2 a2))) (groupVec x (gateW3 a1) (upW3 a3) (chosen3 E) (downW3 a2))) shapeCasts_S81920x1024_S655360x128

theorem res_eq (m : (ℓ : Loc nD τ sig) → Buf (Elt Ideal) ℓ) (c : Dev nD) :
    Cert.ExpertsReferenceIdeal.Value.res_main_v101 (F := Ideal) m c
      = outVec (m ((c.tc : Thread nD τ).loc main_arg0)) (m ((c.tc : Thread nD τ).loc main_arg1)) (m ((c.tc : Thread nD τ).loc main_arg2)) (m ((c.tc : Thread nD τ).loc main_arg3)) (endsVec (m ((c.tc : Thread nD τ).loc main_arg4))) := rfl

end Cert.FfnRef

end
-- ==== Proof.FfnRefAt.lean ====
/-
  THE REFERENCE of the chosen experts, read at an element.
-/
module

public import proofs.«01_k».proof.Proof.FfnRef
public import proofs.«01_k».proof.Proof.Layout
public import Idealize.ShloMosaic.Lib.StableHlo.Predicate
public import Idealize.ShloMosaic.Lib.Pointwise

@[expose] public section

set_option maxRecDepth 16384

noncomputable section

namespace Cert.FfnRef

open Idealize.ShloMosaic Idealize.ShloMosaic.TcCoe Idealize.SL.Sem
open Cert.ExpertsReferenceIdeal Cert.ExpertsReferenceIdeal.Gen

theorem gateW0_apply (a1 : FVec Ideal S2x4x8x1024x256 .f32) (e : Fin 8) (p : Fin 1024) (q : Fin 256) :
    gateW0 a1 (ix3 e p q) = a1 (ix5 (1 : Fin 2) (0 : Fin 4) e p q) := by
  unfold gateW0
  pointwise

theorem upW0_apply (a3 : FVec Ideal S2x4x8x1024x256 .f32) (e : Fin 8) (p : Fin 1024) (q : Fin 256) :
    upW0 a3 (ix3 e p q) = a3 (ix5 (1 : Fin 2) (0 : Fin 4) e p q) := by
  unfold upW0
  pointwise

theorem downW0_apply (a2 : FVec Ideal S2x4x8x256x1024 .f32) (e : Fin 8) (p : Fin 256) (q : Fin 1024) :
    downW0 a2 (ix3 e p q) = a2 (ix5 (1 : Fin 2) (0 : Fin 4) e p q) := by
  unfold downW0
  pointwise

theorem chosen0_apply (E : IVec S32 32) (T : Fin 81920) (e : Fin 8) :
    chosen0 E (ix2 T e) = chosenVec E (ix3 T (0 : Fin 4) e) := by
  unfold chosen0
  generalize chosenVec E = y
  pointwise

theorem gateW1_apply (a1 : FVec Ideal S2x4x8x1024x256 .f32) (e : Fin 8) (p : Fin 1024) (q : Fin 256) :
    gateW1 a1 (ix3 e p q) = a1 (ix5 (1 : Fin 2) (1 : Fin 4) e p q) := by
  unfold gateW1
  pointwise

theorem upW1_apply (a3 : FVec Ideal S2x4x8x1024x256 .f32) (e : Fin 8) (p : Fin 1024) (q : Fin 256) :
    upW1 a3 (ix3 e p q) = a3 (ix5 (1 : Fin 2) (1 : Fin 4) e p q) := by
  unfold upW1
  pointwise

theorem downW1_apply (a2 : FVec Ideal S2x4x8x256x1024 .f32) (e : Fin 8) (p : Fin 256) (q : Fin 1024) :
    downW1 a2 (ix3 e p q) = a2 (ix5 (1 : Fin 2) (1 : Fin 4) e p q) := by
  unfold downW1
  pointwise

theorem chosen1_apply (E : IVec S32 32) (T : Fin 81920) (e : Fin 8) :
    chosen1 E (ix2 T e) = chosenVec E (ix3 T (1 : Fin 4) e) := by
  unfold chosen1
  generalize chosenVec E = y
  pointwise

theorem gateW2_apply (a1 : FVec Ideal S2x4x8x1024x256 .f32) (e : Fin 8) (p : Fin 1024) (q : Fin 256) :
    gateW2 a1 (ix3 e p q) = a1 (ix5 (1 : Fin 2) (2 : Fin 4) e p q) := by
  unfold gateW2
  pointwise

theorem upW2_apply (a3 : FVec Ideal S2x4x8x1024x256 .f32) (e : Fin 8) (p : Fin 1024) (q : Fin 256) :
    upW2 a3 (ix3 e p q) = a3 (ix5 (1 : Fin 2) (2 : Fin 4) e p q) := by
  unfold upW2
  pointwise

theorem downW2_apply (a2 : FVec Ideal S2x4x8x256x1024 .f32) (e : Fin 8) (p : Fin 256) (q : Fin 1024) :
    downW2 a2 (ix3 e p q) = a2 (ix5 (1 : Fin 2) (2 : Fin 4) e p q) := by
  unfold downW2
  pointwise

theorem chosen2_apply (E : IVec S32 32) (T : Fin 81920) (e : Fin 8) :
    chosen2 E (ix2 T e) = chosenVec E (ix3 T (2 : Fin 4) e) := by
  unfold chosen2
  generalize chosenVec E = y
  pointwise

theorem gateW3_apply (a1 : FVec Ideal S2x4x8x1024x256 .f32) (e : Fin 8) (p : Fin 1024) (q : Fin 256) :
    gateW3 a1 (ix3 e p q) = a1 (ix5 (1 : Fin 2) (3 : Fin 4) e p q) := by
  unfold gateW3
  pointwise

theorem upW3_apply (a3 : FVec Ideal S2x4x8x1024x256 .f32) (e : Fin 8) (p : Fin 1024) (q : Fin 256) :
    upW3 a3 (ix3 e p q) = a3 (ix5 (1 : Fin 2) (3 : Fin 4) e p q) := by
  unfold upW3
  pointwise

theorem downW3_apply (a2 : FVec Ideal S2x4x8x256x1024 .f32) (e : Fin 8) (p : Fin 256) (q : Fin 1024) :
    downW3 a2 (ix3 e p q) = a2 (ix5 (1 : Fin 2) (3 : Fin 4) e p q) := by
  unfold downW3
  pointwise

theorem chosen3_apply (E : IVec S32 32) (T : Fin 81920) (e : Fin 8) :
    chosen3 E (ix2 T e) = chosenVec E (ix3 T (3 : Fin 4) e) := by
  unfold chosen3
  generalize chosenVec E = y
  pointwise

theorem shares_apply (counts : IVec S32 32) (e : Fin 32) : ∃ q : BitVec 32, sharesVec counts (ix1 e) = q * 512#32 := by
  unfold sharesVec
  exact ⟨_, rfl⟩

/-- The ends are whole numbers of tiles. -/
theorem ends_whole (counts : IVec S32 32) : Layout.Whole (endsVec counts) :=
  Layout.whole_cumsum (sharesVec counts) (shares_apply counts) _ rfl _ _

theorem owner_apply (E : IVec S32 32) (T : Fin 81920) : (ownerVec E (ix1 T)).toNat = Layout.before E T.val := by
  unfold ownerVec
  refine (StableHlo.Predicate.toNat_reduce_count_cols (n := 81920) (m := 32) (by decide) _ _ _ _ _).trans ?_
  refine congrArg Finset.card (Finset.filter_congr fun e _ => ?_)
  have hij : (StableHlo.Predicate.ij ((ix1 T : S81920.Idx) 0) e : S81920x32.Idx) = ix2 T e := by
    funext a; match a with | ⟨0, _⟩ => rfl | ⟨1, _⟩ => rfl
  rw [hij]
  have hread : (cmpi .sge (broadcastInDim S81920x32 ![0, 1] bcast_S81920x1_S81920x32_0_1 (broadcastInDim S81920x1 ![0] bcast_S81920_S81920x1_0 (iotaInDim S81920 32 0))) (broadcastInDim S81920x32 ![0, 1] bcast_S1x32_S81920x32_0_1 (broadcastInDim S1x32 ![1] bcast_S32_S1x32_1 E)) : IVec S81920x32 1) (ix2 T e)
      = IntOp.cmpi .sge (BitVec.ofNat 32 T.val) (E (ix1 e)) := by
    pointwise
  rw [hread]

/-- What a row takes of an expert. -/
theorem chosen_apply (E : IVec S32 32) (T : Fin 81920) (g : Fin 4) (e : Fin 8) :
    chosenVec E (ix3 T g e) = (((IntOp.cmpi .eq (ownerVec E (ix1 T)) (BitVec.ofNat 32 (g.val * 8 + e.val))).toNat : ℝ) : EReal)
      * (((Layout.used E T.val).toNat : ℝ) : EReal) := by
  unfold chosenVec
  generalize ownerVec E = w
  pointwise
  rfl

theorem proj_apply (x : FVec Ideal S81920x1024 .f32) (w : FVec Ideal S8x1024x256 .f32) (T : Fin 81920) (e : Fin 8) (f : Fin 256) :
    projVec x w (ix3 T e f) = ∑ d : Fin 1024, x (ix2 T d) * w (ix3 e d f) := by
  unfold projVec
  pointwise

theorem hid_apply (x : FVec Ideal S81920x1024 .f32) (w1 w3 : FVec Ideal S8x1024x256 .f32) (ch : FVec Ideal S81920x8 .f32)
    (T : Fin 81920) (e : Fin 8) (f : Fin 256) :
    hidVec x w1 w3 ch (ix3 T e f) = projVec x w1 (ix3 T e f) * Ideal.div 1 (1 + Ideal.exp (-(projVec x w1 (ix3 T e f)))) * projVec x w3 (ix3 T e f) * ch (ix2 T e) := by
  unfold hidVec
  generalize projVec x w1 = u
  generalize projVec x w3 = v
  pointwise

theorem group_apply (x : FVec Ideal S81920x1024 .f32) (w1 w3 : FVec Ideal S8x1024x256 .f32) (ch : FVec Ideal S81920x8 .f32)
    (w2 : FVec Ideal S8x256x1024 .f32) (T : Fin 81920) (d : Fin 1024) :
    groupVec x w1 w3 ch w2 (ix2 T d) = ∑ e : Fin 8, ∑ f : Fin 256, hidVec x w1 w3 ch (ix3 T e f) * w2 (ix3 e f d) := by
  unfold groupVec
  generalize hidVec x w1 w3 ch = u
  pointwise

theorem out_apply (x : FVec Ideal S81920x1024 .f32) (a1 a3 : FVec Ideal S2x4x8x1024x256 .f32) (a2 : FVec Ideal S2x4x8x256x1024 .f32) (E : IVec S32 32)
    (R : Fin 655360) (D : Fin 128) :
    outVec x a1 a3 a2 E (ix2 R D)
      = groupVec x (gateW0 a1) (upW0 a3) (chosen0 E) (downW0 a2) (ix2 (⟨R.val / 8, by omega⟩ : Fin 81920) (⟨R.val % 8 * 128 + D.val, by omega⟩ : Fin 1024))
        + groupVec x (gateW1 a1) (upW1 a3) (chosen1 E) (downW1 a2) (ix2 (⟨R.val / 8, by omega⟩ : Fin 81920) (⟨R.val % 8 * 128 + D.val, by omega⟩ : Fin 1024))
        + groupVec x (gateW2 a1) (upW2 a3) (chosen2 E) (downW2 a2) (ix2 (⟨R.val / 8, by omega⟩ : Fin 81920) (⟨R.val % 8 * 128 + D.val, by omega⟩ : Fin 1024))
        + groupVec x (gateW3 a1) (upW3 a3) (chosen3 E) (downW3 a2) (ix2 (⟨R.val / 8, by omega⟩ : Fin 81920) (⟨R.val % 8 * 128 + D.val, by omega⟩ : Fin 1024)) := by
  unfold outVec
  generalize groupVec x (gateW0 a1) (upW0 a3) (chosen0 E) (downW0 a2) = y0
  generalize groupVec x (gateW1 a1) (upW1 a3) (chosen1 E) (downW1 a2) = y1
  generalize groupVec x (gateW2 a1) (upW2 a3) (chosen2 E) (downW2 a2) = y2
  generalize groupVec x (gateW3 a1) (upW3 a3) (chosen3 E) (downW3 a2) = y3
  pointwise

/-! ## The experts not chosen add nothing -/

/-- A group none of whose experts is chosen adds nothing. -/
theorem group_none (x : FVec Ideal S81920x1024 .f32) (w1 w3 : FVec Ideal S8x1024x256 .f32) (ch : FVec Ideal S81920x8 .f32)
    (w2 : FVec Ideal S8x256x1024 .f32) (T : Fin 81920) (d : Fin 1024) (h : ∀ e : Fin 8, ch (ix2 T e) = 0) :
    groupVec x w1 w3 ch w2 (ix2 T d) = 0 := by
  rw [group_apply]
  refine Finset.sum_eq_zero fun e _ => Finset.sum_eq_zero fun f _ => ?_
  rw [hid_apply, h e, mul_zero, zero_mul]

/-- A group one of whose experts is chosen adds what that expert does. -/
theorem group_one (x : FVec Ideal S81920x1024 .f32) (w1 w3 : FVec Ideal S8x1024x256 .f32) (ch : FVec Ideal S81920x8 .f32)
    (w2 : FVec Ideal S8x256x1024 .f32) (T : Fin 81920) (d : Fin 1024) (e0 : Fin 8) (h1 : ch (ix2 T e0) = 1)
    (h : ∀ e : Fin 8, e ≠ e0 → ch (ix2 T e) = 0) :
    groupVec x w1 w3 ch w2 (ix2 T d)
      = Feed.ffn (fun k => x (ix2 T k)) (fun k f => w1 (ix3 e0 k f)) (fun k f => w3 (ix3 e0 k f)) (fun f => w2 (ix3 e0 f d)) := by
  rw [group_apply, Finset.sum_eq_single e0]
  · refine Finset.sum_congr rfl fun f _ => ?_
    rw [hid_apply, h1, mul_one, proj_apply, proj_apply]
    rfl
  · intro e _ he
    refine Finset.sum_eq_zero fun f _ => ?_
    rw [hid_apply, h e he, mul_zero, zero_mul]
  · exact fun hn => absurd (Finset.mem_univ _) hn

/-- An unused tile's rows take nothing of any expert. -/
theorem chosen_unused (E : IVec S32 32) (hE : Layout.Whole E) (T : Fin 81920) (g : Fin 4) (e : Fin 8)
    (h : Layout.tileUse E (ix1 (⟨T.val / 512, by omega⟩ : Fin 160)) = 0#32) : chosenVec E (ix3 T g e) = 0 := by
  rw [chosen_apply, Layout.row_unused hE T h, show (0#1).toNat = 0 from rfl, Nat.cast_zero, EReal.coe_zero, mul_zero]

/-- A row takes nothing of another tile's expert, -/
theorem chosen_other (E : IVec S32 32) (hE : Layout.Whole E) (T : Fin 81920) (g : Fin 4) (e : Fin 8)
    (h1 : Layout.tileUse E (ix1 (⟨T.val / 512, by omega⟩ : Fin 160)) = 1#32)
    (h : (Layout.tileExpert E (ix1 (⟨T.val / 512, by omega⟩ : Fin 160))).toNat ≠ g.val * 8 + e.val) : chosenVec E (ix3 T g e) = 0 := by
  rw [← Layout.row_expert hE T h1, ← owner_apply] at h
  rw [chosen_apply]
  generalize ownerVec E (ix1 T) = w at h
  have hne : w ≠ BitVec.ofNat 32 (g.val * 8 + e.val) := by
    rintro rfl
    refine h ?_
    rw [BitVec.toNat_ofNat]
    exact Nat.mod_eq_of_lt (by omega)
  have e1 : IntOp.cmpi .eq w (BitVec.ofNat 32 (g.val * 8 + e.val)) = 0#1 := by
    show BitVec.ofBool (w == _) = 0#1
    rw [beq_false_of_ne hne]
    rfl
  rw [e1, show (0#1).toNat = 0 from rfl, Nat.cast_zero, EReal.coe_zero, zero_mul]

/-- and one of its own. -/
theorem chosen_own (E : IVec S32 32) (hE : Layout.Whole E) (T : Fin 81920) (g : Fin 4) (e : Fin 8)
    (h : (Layout.tileExpert E (ix1 (⟨T.val / 512, by omega⟩ : Fin 160))).toNat = g.val * 8 + e.val)
    (h1 : Layout.tileUse E (ix1 (⟨T.val / 512, by omega⟩ : Fin 160)) = 1#32) : chosenVec E (ix3 T g e) = 1 := by
  rw [← Layout.row_expert hE T h1, ← owner_apply] at h
  rw [chosen_apply, Layout.row_used hE T h1, show (1#1).toNat = 1 from rfl, Nat.cast_one, EReal.coe_one, mul_one]
  generalize ownerVec E (ix1 T) = w at h
  have e1 : w = BitVec.ofNat 32 (g.val * 8 + e.val) := by
    refine BitVec.eq_of_toNat_eq ?_
    rw [h, BitVec.toNat_ofNat]
    exact (Nat.mod_eq_of_lt (by omega)).symm
  have e2 : IntOp.cmpi .eq w (BitVec.ofNat 32 (g.val * 8 + e.val)) = 1#1 := by
    show BitVec.ofBool (w == _) = 1#1
    rw [beq_iff_eq.2 e1]
    rfl
  rw [e2, show (1#1).toNat = 1 from rfl, Nat.cast_one, EReal.coe_one]

theorem group_other (x : FVec Ideal S81920x1024 .f32) (w1 w3 : FVec Ideal S8x1024x256 .f32) (E : IVec S32 32) (hE : Layout.Whole E) (ch : FVec Ideal S81920x8 .f32)
    (w2 : FVec Ideal S8x256x1024 .f32) (T : Fin 81920) (d : Fin 1024) (g : Fin 4)
    (hch : ∀ e : Fin 8, ch (ix2 T e) = chosenVec E (ix3 T g e))
    (h1 : Layout.tileUse E (ix1 (⟨T.val / 512, by omega⟩ : Fin 160)) = 1#32)
    (h : (Layout.tileExpert E (ix1 (⟨T.val / 512, by omega⟩ : Fin 160))).toNat / 8 ≠ g.val) :
    groupVec x w1 w3 ch w2 (ix2 T d) = 0 :=
  group_none x w1 w3 ch w2 T d fun e => (hch e).trans (chosen_other E hE T g e h1 fun hq => h (by have := e.isLt; omega))

theorem group_own (x : FVec Ideal S81920x1024 .f32) (w1 w3 : FVec Ideal S8x1024x256 .f32) (E : IVec S32 32) (hE : Layout.Whole E) (ch : FVec Ideal S81920x8 .f32)
    (w2 : FVec Ideal S8x256x1024 .f32) (T : Fin 81920) (d : Fin 1024) (g : Fin 4)
    (hch : ∀ e : Fin 8, ch (ix2 T e) = chosenVec E (ix3 T g e))
    (h : (Layout.tileExpert E (ix1 (⟨T.val / 512, by omega⟩ : Fin 160))).toNat / 8 = g.val)
    (h1 : Layout.tileUse E (ix1 (⟨T.val / 512, by omega⟩ : Fin 160)) = 1#32) :
    groupVec x w1 w3 ch w2 (ix2 T d)
      = Feed.ffn (fun k => x (ix2 T k)) (fun k f => w1 (ix3 (Feed.memberOf (Layout.tileExpert E (ix1 (⟨T.val / 512, by omega⟩ : Fin 160)))) k f))
          (fun k f => w3 (ix3 (Feed.memberOf (Layout.tileExpert E (ix1 (⟨T.val / 512, by omega⟩ : Fin 160)))) k f))
          (fun f => w2 (ix3 (Feed.memberOf (Layout.tileExpert E (ix1 (⟨T.val / 512, by omega⟩ : Fin 160)))) f d)) := by
  refine group_one x w1 w3 ch w2 T d _ ((hch _).trans (chosen_own E hE T g _ ?_ h1)) fun e he => (hch e).trans (chosen_other E hE T g e h1 fun hq => he ?_)
  · show _ = g.val * 8 + _ % 8
    omega
  · refine Fin.ext ?_
    show e.val = _ % 8
    have := e.isLt
    omega

/-- The reference's result: every tile's rows through its expert. -/
theorem out_eq (x : FVec Ideal S81920x1024 .f32) (a1 a3 : FVec Ideal S2x4x8x1024x256 .f32) (a2 : FVec Ideal S2x4x8x256x1024 .f32) (E : IVec S32 32)
    (hE : Layout.Whole E) :
    outVec x a1 a3 a2 E = Feed.fedRows x a1 a3 a2 (Layout.tileExpert E) (Layout.tileUse E) := by
  funext i
  obtain ⟨R, D, rfl⟩ : ∃ (R : Fin 655360) (D : Fin 128), i = ix2 R D := ⟨i 0, i 1, by funext a; match a with | ⟨0, _⟩ => rfl | ⟨1, _⟩ => rfl⟩
  rw [out_apply]
  show _ = Feed.entry x a1 a3 a2 (Layout.tileExpert E) (Layout.tileUse E) (⟨R.val / 8, by omega⟩ : Fin 81920) (⟨128 * (R.val % 8) + D.val, by omega⟩ : Fin 1024)
  have ed : (⟨R.val % 8 * 128 + D.val, by omega⟩ : Fin 1024) = ⟨128 * (R.val % 8) + D.val, by omega⟩ := Fin.ext (by show R.val % 8 * 128 + D.val = 128 * (R.val % 8) + D.val; omega)
  rw [ed]
  generalize (⟨R.val / 8, by omega⟩ : Fin 81920) = T
  generalize (⟨128 * (R.val % 8) + D.val, by omega⟩ : Fin 1024) = d
  unfold Feed.entry
  have hk := Layout.tileExpert_lt E (⟨T.val / 512, by omega⟩ : Fin 160)
  rcases Layout.tileUse_cases E (⟨T.val / 512, by omega⟩ : Fin 160) with h0 | h1
  · rw [if_neg (by rw [h0]; decide),
      group_none _ _ _ _ _ T d fun e => (chosen0_apply E T e).trans (chosen_unused E hE T _ e h0),
      group_none _ _ _ _ _ T d fun e => (chosen1_apply E T e).trans (chosen_unused E hE T _ e h0),
      group_none _ _ _ _ _ T d fun e => (chosen2_apply E T e).trans (chosen_unused E hE T _ e h0),
      group_none _ _ _ _ _ T d fun e => (chosen3_apply E T e).trans (chosen_unused E hE T _ e h0)]
    simp
  · rw [if_pos h1]
    have hc : (Layout.tileExpert E (ix1 (⟨T.val / 512, by omega⟩ : Fin 160))).toNat / 8 = 0 ∨ (Layout.tileExpert E (ix1 (⟨T.val / 512, by omega⟩ : Fin 160))).toNat / 8 = 1
        ∨ (Layout.tileExpert E (ix1 (⟨T.val / 512, by omega⟩ : Fin 160))).toNat / 8 = 2 ∨ (Layout.tileExpert E (ix1 (⟨T.val / 512, by omega⟩ : Fin 160))).toNat / 8 = 3 := by omega
    rcases hc with hg | hg | hg | hg
    · have eg : Feed.groupOf (Layout.tileExpert E (ix1 (⟨T.val / 512, by omega⟩ : Fin 160))) = (0 : Fin 4) := Fin.ext (by show _ / 8 % 4 = 0; omega)
      rw [group_own _ _ _ E hE _ _ T d (0 : Fin 4) (chosen0_apply E T) hg h1,
        group_other _ _ _ E hE _ _ T d (1 : Fin 4) (chosen1_apply E T) h1 (by rw [hg]; decide),
        group_other _ _ _ E hE _ _ T d (2 : Fin 4) (chosen2_apply E T) h1 (by rw [hg]; decide),
        group_other _ _ _ E hE _ _ T d (3 : Fin 4) (chosen3_apply E T) h1 (by rw [hg]; decide)]
      simp only [gateW0_apply, upW0_apply, downW0_apply, eg, zero_add, add_zero]
    · have eg : Feed.groupOf (Layout.tileExpert E (ix1 (⟨T.val / 512, by omega⟩ : Fin 160))) = (1 : Fin 4) := Fin.ext (by show _ / 8 % 4 = 1; omega)
      rw [group_other _ _ _ E hE _ _ T d (0 : Fin 4) (chosen0_apply E T) h1 (by rw [hg]; decide),
        group_own _ _ _ E hE _ _ T d (1 : Fin 4) (chosen1_apply E T) hg h1,
        group_other _ _ _ E hE _ _ T d (2 : Fin 4) (chosen2_apply E T) h1 (by rw [hg]; decide),
        group_other _ _ _ E hE _ _ T d (3 : Fin 4) (chosen3_apply E T) h1 (by rw [hg]; decide)]
      simp only [gateW1_apply, upW1_apply, downW1_apply, eg, zero_add, add_zero]
    · have eg : Feed.groupOf (Layout.tileExpert E (ix1 (⟨T.val / 512, by omega⟩ : Fin 160))) = (2 : Fin 4) := Fin.ext (by show _ / 8 % 4 = 2; omega)
      rw [group_other _ _ _ E hE _ _ T d (0 : Fin 4) (chosen0_apply E T) h1 (by rw [hg]; decide),
        group_other _ _ _ E hE _ _ T d (1 : Fin 4) (chosen1_apply E T) h1 (by rw [hg]; decide),
        group_own _ _ _ E hE _ _ T d (2 : Fin 4) (chosen2_apply E T) hg h1,
        group_other _ _ _ E hE _ _ T d (3 : Fin 4) (chosen3_apply E T) h1 (by rw [hg]; decide)]
      simp only [gateW2_apply, upW2_apply, downW2_apply, eg, zero_add, add_zero]
    · have eg : Feed.groupOf (Layout.tileExpert E (ix1 (⟨T.val / 512, by omega⟩ : Fin 160))) = (3 : Fin 4) := Fin.ext (by show _ / 8 % 4 = 3; omega)
      rw [group_other _ _ _ E hE _ _ T d (0 : Fin 4) (chosen0_apply E T) h1 (by rw [hg]; decide),
        group_other _ _ _ E hE _ _ T d (1 : Fin 4) (chosen1_apply E T) h1 (by rw [hg]; decide),
        group_other _ _ _ E hE _ _ T d (2 : Fin 4) (chosen2_apply E T) h1 (by rw [hg]; decide),
        group_own _ _ _ E hE _ _ T d (3 : Fin 4) (chosen3_apply E T) hg h1]
      simp only [gateW3_apply, upW3_apply, downW3_apply, eg, zero_add, add_zero]

end Cert.FfnRef

end
-- ==== Proof.FfnClaims.lean ====
/-
  THE CLAIMS of the call of the chosen experts: it ends with its arguments kept, and what it writes is what the reference
  writes, whatever the rows, the weights and the experts' counts.
-/
module

public import proofs.«01_k».proof.Defs
public import proofs.«01_k».proof.Proof.ExTab
public import proofs.«01_k».proof.Proof.FfnArray
public import proofs.«01_k».proof.Proof.FfnRefAt
public import Idealize.ShloMosaic.Lib.Quiescent

@[expose] public section

noncomputable section

namespace Cert.Proof

open Idealize.ShloMosaic Idealize.SL.Sem

theorem experts_quiescent : Cert.quiescent_Experts (hExperts := Cert.Experts.Gen.facts) :=
  fun m g _ => Cert.Experts.Ffn.frame m g (Cert.Experts.Ffn.ok (Cert.Experts.Ffn.chosen m)) (Cert.Experts.Ffn.fed (Cert.Experts.Ffn.chosen m))

theorem expertsIdeal_quiescent : Cert.quiescent_ExpertsIdeal (hExpertsIdeal := Cert.ExpertsIdeal.Gen.facts) :=
  fun m g _ => Cert.ExpertsIdeal.Ffn.frame m g (Cert.ExpertsIdeal.Ffn.ok (Cert.ExpertsIdeal.Ffn.chosen m))
    (Cert.ExpertsIdeal.Ffn.fed (Cert.ExpertsIdeal.Ffn.chosen m))

theorem expertsReference_quiescent : Cert.quiescent_ExpertsReferenceIdeal (hExpertsReferenceIdeal := Cert.ExpertsReferenceIdeal.Gen.facts) :=
  fun m g _ => (θ_run _ _ _).mono
    (fun r h => ⟨fun c => (h c).2, sem_eq_zero_of_no_sems (by decide) r.2⟩)
    (Cert.ExpertsReferenceIdeal.Value.run (F := Ideal) m g)

/-- The kernel's host code and the reference reckon the same ends of the experts' shares. -/
theorem ends_same (counts : IVec Cert.Layout.EndS 32) : Cert.FfnRef.endsVec counts = Cert.ExpertsIdeal.Ffn.endsVec counts := rfl

/-- The kernel's experts and the reference's write the same rows. -/
theorem experts_algebraic : Cert.algebraic_ExpertsIdeal_ExpertsReferenceIdeal (hExpertsIdeal := Cert.ExpertsIdeal.Gen.facts)
    (hExpertsReferenceIdeal := Cert.ExpertsReferenceIdeal.Gen.facts) := by
  intro m g m' g' _ hag
  have hc := Cert.ExpertsIdeal.Ffn.chosen m
  refine ⟨fun c => Cert.ExpertsIdeal.Ffn.whole (m := m) c, Cert.ExpertsIdeal.Ffn.run hc g,
    (θ_run _ _ _).mono (fun r h c => ⟨(h c).1.trans ?_, (h c).2⟩) (Cert.ExpertsReferenceIdeal.Value.run (F := Ideal) m' g')⟩
  rw [Cert.FfnRef.res_eq, (hag c).1, (hag c).2.1, (hag c).2.2.1, (hag c).2.2.2.1, (hag c).2.2.2.2]
  obtain rfl : c = 0 := Subsingleton.elim _ _
  refine (Cert.FfnRef.out_eq _ _ _ _ _ (Cert.FfnRef.ends_whole _)).trans ?_
  unfold Cert.ExpertsIdeal.Ffn.whole Cert.ExpertsIdeal.Ffn.argE Cert.ExpertsIdeal.Ffn.argU
  rw [Cert.ExpertsIdeal.Ffn.ends_eq, ends_same]

end Cert.Proof

end
-- ==== Proof.Normed.lean ====
/-
  THE NORM AND THE PRODUCT of the input projection, as one function of the rows, the norm's weights and the matrix.
-/
module

public import Idealize.ShloMosaic.Lib.Pointwise
public import Idealize.ShloMosaic.PureOps.Ideal

@[expose] public section

noncomputable section

namespace Cert.Normed

open Idealize.ShloMosaic

abbrev InS : Shape := ⟨3, ![16, 2048, 1024]⟩
abbrev GainS : Shape := ⟨1, ![1024]⟩
abbrev MatS : Shape := ⟨2, ![1024, 3328]⟩
abbrev RecS : Shape := ⟨2, ![32768, 1792]⟩
abbrev AttS : Shape := ⟨2, ![32768, 1536]⟩

/-- One over the root of a row's mean square, with the norm's small constant added. -/
def scaleOf (x : Fin 1024 → EReal) : EReal :=
  Ideal.rsqrt (Ideal.div (∑ k : Fin 1024, x k * x k) (Ideal.ofBits .f32 0x44800000#32) + Ideal.ofBits .f32 0x358637BD#32)

/-- A row, normed, times a column. -/
def dotted (x w col : Fin 1024 → EReal) : EReal := ∑ k : Fin 1024, x k * scaleOf x * w k * col k

/-- Column `C` of row `R`. -/
def entry (x : FVec Ideal InS .f32) (w : FVec Ideal GainS .f32) (a : FVec Ideal MatS .f32) (R : Fin 32768) (C : Fin 3328) : EReal :=
  dotted (fun k => x (ix3 (⟨R.val / 2048, by omega⟩ : Fin 16) (⟨R.val % 2048, by omega⟩ : Fin 2048) k)) (fun k => w (ix1 k))
    (fun k => a (ix2 k C))

/-- The recurrence's columns, the first 1792. -/
def recRows (x : FVec Ideal InS .f32) (w : FVec Ideal GainS .f32) (a : FVec Ideal MatS .f32) : FVec Ideal RecS .f32 :=
  fun i => entry x w a ⟨(i 0).val, (i 0).isLt⟩ ⟨(i 1).val, by have h : (i 1).val < 1792 := (i 1).isLt; omega⟩

/-- The attention's columns, the last 1536. -/
def attRows (x : FVec Ideal InS .f32) (w : FVec Ideal GainS .f32) (a : FVec Ideal MatS .f32) : FVec Ideal AttS .bf16 :=
  fun i => entry x w a ⟨(i 0).val, (i 0).isLt⟩ ⟨1792 + (i 1).val, by have h : (i 1).val < 1536 := (i 1).isLt; omega⟩

end Cert.Normed

end
-- ==== Proof.ProjBlock.lean ====
/-
  ONE BLOCK OF ROWS of the input projection, read at an element.
-/
module

public import proofs.«01_k».proof.Proof.Gen.ProjectionIdeal.Value
public import proofs.«01_k».proof.Proof.Normed

@[expose] public section

set_option maxRecDepth 16384

noncomputable section

namespace Cert.ProjectionIdeal.Proj

open Cert.ProjectionIdeal Cert.ProjectionIdeal.Gen
open Idealize.ShloMosaic Idealize.ShloMosaic.TcCoe Idealize.SL.Sem

theorem hz2 : (![0, 0] : Fin 2 → Nat) = fun _ => 0 := funext fun a => by
  match a with
  | ⟨0, _⟩ => rfl
  | ⟨1, _⟩ => rfl

/-- The normed row. -/
theorem pay1_apply (x : Vec Ideal S512x1024 .f32) (w : Vec Ideal S1x1024 .f32) (r : Fin 512) (k : Fin 1024) :
    k0_pay1 x w (ix2 r k) = x (ix2 r k) * Normed.scaleOf (fun k => x (ix2 r k)) * w (ix2 (0 : Fin 1) k) := by
  unfold k0_pay1 Normed.scaleOf
  pointwise

theorem times_rec (y : FVec Ideal S512x1024 .bf16) (a : Vec Ideal S1024x1792 .bf16) (r : Fin 512) (C : Fin 1792) :
    (matmul dot_S512x1024_S1024x1792_S512x1792_1_0_0_1_n_n none y (shapeCast S1024x1792 a shapeCasts_S1024x1792_S1024x1792 : FVec Ideal S1024x1792 .bf16) (constant S512x1792 .f32 0x00000000#32) : FVec Ideal S512x1792 .f32) (ix2 r C)
      = ∑ k : Fin 1024, y (ix2 r k) * a (ix2 k C) := by
  pointwise

theorem times_att (y : FVec Ideal S512x1024 .bf16) (a : Vec Ideal S1024x1536 .bf16) (r : Fin 512) (C : Fin 1536) :
    (matmul dot_S512x1024_S1024x1536_S512x1536_1_0_0_1_n_n none y (shapeCast S1024x1536 a shapeCasts_S1024x1536_S1024x1536 : FVec Ideal S1024x1536 .bf16) (constant S512x1536 .f32 0x00000000#32) : FVec Ideal S512x1536 .f32) (ix2 r C)
      = ∑ k : Fin 1024, y (ix2 r k) * a (ix2 k C) := by
  pointwise

/-- What a point leaves in the recurrence's block, -/
theorem rec_apply (x : Vec Ideal S512x1024 .f32) (w : Vec Ideal S1x1024 .f32) (a : Vec Ideal S1024x1792 .bf16) (b : Vec Ideal S1024x1536 .bf16)
    (r : Fin 512) (C : Fin 1792) :
    out0_4 x w a b (ix2 r C) = Normed.dotted (fun k => x (ix2 r k)) (fun k => w (ix2 (0 : Fin 1) k)) (fun k => a (ix2 k C)) := by
  unfold out0_4
  rw [View.canon_unit_zero hz2]
  refine Eq.trans (b := k0_pay2 x w a (ix2 r C)) ?_ ?_
  · have e0 : View.ld x r0_0 = x := View.ld_unit_zero hz2 _ x
    have e1 : View.ld w r0_1 = w := View.ld_unit_zero hz2 _ w
    have e2 : View.ld a r0_2 = a := View.ld_unit_zero hz2 _ a
    rw [e0, e1, e2]
  unfold k0_pay2 Normed.dotted
  refine (times_rec _ _ r C).trans (Finset.sum_congr rfl fun k _ => ?_)
  exact congrArg (· * a (ix2 k C)) (pay1_apply x w r k)

/-- and in the attention's. -/
theorem att_apply (x : Vec Ideal S512x1024 .f32) (w : Vec Ideal S1x1024 .f32) (a : Vec Ideal S1024x1792 .bf16) (b : Vec Ideal S1024x1536 .bf16)
    (r : Fin 512) (C : Fin 1536) :
    out0_5 x w a b (ix2 r C) = Normed.dotted (fun k => x (ix2 r k)) (fun k => w (ix2 (0 : Fin 1) k)) (fun k => b (ix2 k C)) := by
  unfold out0_5
  rw [View.canon_unit_zero hz2]
  refine Eq.trans (b := k0_pay3 x w b (ix2 r C)) ?_ ?_
  · have e0 : View.ld x r0_0 = x := View.ld_unit_zero hz2 _ x
    have e1 : View.ld w r0_1 = w := View.ld_unit_zero hz2 _ w
    have e2 : View.ld b r0_4 = b := View.ld_unit_zero hz2 _ b
    rw [e0, e1, e2]
  unfold k0_pay3 Normed.dotted
  refine (times_att _ _ r C).trans (Finset.sum_congr rfl fun k _ => ?_)
  exact congrArg (· * b (ix2 k C)) (pay1_apply x w r k)

end Cert.ProjectionIdeal.Proj

end
-- ==== Proof.ProjArray.lean ====
/-
  WHAT THE INPUT PROJECTION LEAVES IN ITS TWO RESULTS: every row, normed, times the matrix's columns.
-/
module

public import proofs.«01_k».proof.Proof.ProjBlock
public import Idealize.ShloMosaic.Lib.StableHlo.ReadAt
public import Idealize.ShloMosaic.Lib.Pipeline.Value

@[expose] public section

set_option maxRecDepth 16384

noncomputable section

namespace Cert.ProjectionIdeal.Proj

open Cert.ProjectionIdeal Cert.ProjectionIdeal.Gen
open Idealize.ShloMosaic Idealize.ShloMosaic.TcCoe Idealize.SL.Sem
open Idealize.ShloMosaic.Pipeline (Dat)

variable (m : (ℓ : Loc nD τ sig) → Buf (Elt Ideal) ℓ)

/-- The rows, the norm's weights and the matrix as the memory holds them. -/
abbrev argX (c : Dev nD) : Vec Ideal S16x2048x1024 .f32 := m (c, Proc.tc.devRef main_arg0)
abbrev argN (c : Dev nD) : Vec Ideal S1024 .f32 := m (c, Proc.tc.devRef main_arg1)
abbrev argW (c : Dev nD) : Vec Ideal S1024x3328 .f32 := m (c, Proc.tc.devRef main_arg2)

theorem rows_apply (c : Dev nD) (R : Fin 32768) (k : Fin 1024) :
    (V m c main_v0 : Vec Ideal S32768x1024 .f32) (ix2 R k)
      = argX m c (ix3 (⟨R.val / 2048, by omega⟩ : Fin 16) (⟨R.val % 2048, by omega⟩ : Fin 2048) k) := by
  unfold V
  after_reads_at

theorem gain_apply (c : Dev nD) (k : Fin 1024) :
    (V m c main_v5 : Vec Ideal S1x1024 .f32) (ix2 (0 : Fin 1) k) = argN m c (ix1 k) := by
  unfold V
  after_reads_at

theorem recMat_apply (c : Dev nD) (k : Fin 1024) (C : Fin 1792) :
    (V m c main_v2 : Vec Ideal S1024x1792 .bf16) (ix2 k C) = argW m c (ix2 k (⟨C.val, by omega⟩ : Fin 3328)) := by
  unfold V
  after_reads_at

theorem attMat_apply (c : Dev nD) (k : Fin 1024) (C : Fin 1536) :
    (V m c main_v4 : Vec Ideal S1024x1536 .bf16) (ix2 k C) = argW m c (ix2 k (⟨1792 + C.val, by omega⟩ : Fin 3328)) := by
  unfold V
  after_reads_at

theorem N_eq : cfg0.N = 64 := N_0

theorem at_0 : ∀ t : Fin cfg0.N, win0_0.index t 0 * win0_0.size 0 = 512 * t.val ∧ win0_0.index t 1 * win0_0.size 1 = 0 :=
  (by decide +kernel : ∀ t : Fin grid0.N, win0_0.index t 0 * win0_0.size 0 = 512 * t.val ∧ win0_0.index t 1 * win0_0.size 1 = 0)

theorem at_1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)

theorem at_2 : ∀ t : Fin cfg0.N, win0_2.index t 0 * win0_2.size 0 = 0 ∧ win0_2.index t 1 * win0_2.size 1 = 0 :=
  (by decide +kernel : ∀ t : Fin grid0.N, win0_2.index t 0 * win0_2.size 0 = 0 ∧ win0_2.index t 1 * win0_2.size 1 = 0)

theorem at_3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)

/-- The rows a point stages. -/
theorem iblk_0 (c : Dev nD) (t : Fin cfg0.N) (r : Fin 512) (k : Fin 1024) :
    (iblk m c 0 t : Vec Ideal S512x1024 .f32) (ix2 r k)
      = argX m c (ix3 (⟨(512 * t.val + r.val) / 2048, by have := N_eq; have := t.isLt; omega⟩ : Fin 16)
          (⟨(512 * t.val + r.val) % 2048, by omega⟩ : Fin 2048) k) := by
  have hN := N_eq
  have ht := t.isLt
  refine Eq.trans (b := (V m c main_v0 : Vec Ideal S32768x1024 .f32) (ix2 (⟨512 * t.val + r.val, by omega⟩ : Fin 32768) k)) ?_ (rows_apply m c _ k)
  show (V m c main_v0 : Vec Ideal S32768x1024 .f32) _ = _
  refine congrArg (V m c main_v0 : Vec Ideal S32768x1024 .f32) (funext fun a => Fin.ext ?_)
  match a with
  | ⟨0, _⟩ => show win0_0.index t 0 * win0_0.size 0 + 1 * r.val = 512 * t.val + r.val; rw [(at_0 t).1, one_mul]
  | ⟨1, _⟩ => show win0_0.index t 1 * win0_0.size 1 + 1 * k.val = k.val; rw [(at_0 t).2]; omega

/-- The norm's weights and the two parts of the matrix are staged whole. -/
theorem iblk_1 (c : Dev nD) (t : Fin cfg0.N) (k : Fin 1024) :
    (iblk m c 1 t : Vec Ideal S1x1024 .f32) (ix2 (0 : Fin 1) k) = argN m c (ix1 k) := by
  refine Eq.trans (b := (V m c main_v5 : Vec Ideal S1x1024 .f32) (ix2 (0 : Fin 1) k)) ?_ (gain_apply m c k)
  show (V m c main_v5 : Vec Ideal S1x1024 .f32) _ = _
  refine congrArg (V m c main_v5 : Vec Ideal S1x1024 .f32) (funext fun a => Fin.ext ?_)
  match a with
  | ⟨0, _⟩ => show win0_1.index t 0 * win0_1.size 0 + 1 * 0 = 0; rw [(at_1 t).1]
  | ⟨1, _⟩ => show win0_1.index t 1 * win0_1.size 1 + 1 * k.val = k.val; rw [(at_1 t).2]; omega

theorem iblk_2 (c : Dev nD) (t : Fin cfg0.N) (k : Fin 1024) (C : Fin 1792) :
    (iblk m c 2 t : Vec Ideal S1024x1792 .bf16) (ix2 k C) = argW m c (ix2 k (⟨C.val, by omega⟩ : Fin 3328)) := by
  refine Eq.trans (b := (V m c main_v2 : Vec Ideal S1024x1792 .bf16) (ix2 k C)) ?_ (recMat_apply m c k C)
  show (V m c main_v2 : Vec Ideal S1024x1792 .bf16) _ = _
  refine congrArg (V m c main_v2 : Vec Ideal S1024x1792 .bf16) (funext fun a => Fin.ext ?_)
  match a with
  | ⟨0, _⟩ => show win0_2.index t 0 * win0_2.size 0 + 1 * k.val = k.val; rw [(at_2 t).1]; omega
  | ⟨1, _⟩ => show win0_2.index t 1 * win0_2.size 1 + 1 * C.val = C.val; rw [(at_2 t).2]; omega

theorem iblk_3 (c : Dev nD) (t : Fin cfg0.N) (k : Fin 1024) (C : Fin 1536) :
    (iblk m c 3 t : Vec Ideal S1024x1536 .bf16) (ix2 k C) = argW m c (ix2 k (⟨1792 + C.val, by omega⟩ : Fin 3328)) := by
  refine Eq.trans (b := (V m c main_v4 : Vec Ideal S1024x1536 .bf16) (ix2 k C)) ?_ (attMat_apply m c k C)
  show (V m c main_v4 : Vec Ideal S1024x1536 .bf16) _ = _
  refine congrArg (V m c main_v4 : Vec Ideal S1024x1536 .bf16) (funext fun a => Fin.ext ?_)
  match a with
  | ⟨0, _⟩ => show win0_3.index t 0 * win0_3.size 0 + 1 * k.val = k.val; rw [(at_3 t).1]; omega
  | ⟨1, _⟩ => show win0_3.index t 1 * win0_3.size 1 + 1 * C.val = C.val; rw [(at_3 t).2]; omega

theorem dotted_congr {x x' w w' a a' : Fin 1024 → EReal} (hx : x = x') (hw : w = w') (ha : a = a') :
    Normed.dotted x w a = Normed.dotted x' w' a' := by
  rw [hx, hw, ha]

/-- One entry of what a point leaves in the recurrence's block. -/
theorem point_rec (c : Dev nD) (t : Fin cfg0.N) (r : Fin 512) (C : Fin 1792) :
    out0_4 (iblk m c 0 t) (iblk m c 1 t) (iblk m c 2 t) (iblk m c 3 t) (ix2 r C)
      = Normed.entry (argX m c) (argN m c) (argW m c) (⟨512 * t.val + r.val, by have := N_eq; have := t.isLt; omega⟩ : Fin 32768) (⟨C.val, by omega⟩ : Fin 3328) :=
  (rec_apply _ _ _ _ r C).trans (dotted_congr (funext fun k => iblk_0 m c t r k) (funext fun k => iblk_1 m c t k) (funext fun k => iblk_2 m c t k C))

theorem at_4 : ∀ t : Fin cfg0.N, win0_4.index t 0 * win0_4.size 0 = 512 * t.val ∧ win0_4.index t 1 * win0_4.size 1 = 0
    ∧ win0_4.xsize (grid0.coords t) 0 = 512 ∧ win0_4.xsize (grid0.coords t) 1 = 1792 :=
  (by decide +kernel : ∀ t : Fin grid0.N, win0_4.index t 0 * win0_4.size 0 = 512 * t.val ∧ win0_4.index t 1 * win0_4.size 1 = 0
    ∧ win0_4.xsize (grid0.coords t) 0 = 512 ∧ win0_4.xsize (grid0.coords t) 1 = 1792)

/-- What a point writes back is its block of the whole result. -/
theorem flushed_rec (c : Dev nD) (t : Fin cfg0.N) :
    (dats m 0 c).flushed 4 t = ((cfg0.win 4).blk t).view.read (Elt Ideal) (Normed.recRows (argX m c) (argN m c) (argW m c)) := by
  rw [Cert.ProjectionIdeal.Value.flushed4]
  refine funext fun (x : S512x1792.Idx) => ?_
  obtain ⟨r, hr⟩ : ∃ r : Fin 512, r.val = (x 0).val := ⟨⟨(x 0).val, (x 0).isLt⟩, rfl⟩
  obtain ⟨C, hC⟩ : ∃ C : Fin 1792, C.val = (x 1).val := ⟨⟨(x 1).val, (x 1).isLt⟩, rfl⟩
  refine Eq.trans ?_ ((point_rec m c t r C).trans ?_)
  · show out0_4 (iblk m c 0 t) (iblk m c 1 t) (iblk m c 2 t) (iblk m c 3 t) _ = _
    refine congrArg (out0_4 (iblk m c 0 t) (iblk m c 1 t) (iblk m c 2 t) (iblk m c 3 t)) (funext fun a => Fin.ext ?_)
    match a with
    | ⟨0, _⟩ => exact hr.symm
    | ⟨1, _⟩ => exact hC.symm
  · have h0 := x 0 |>.isLt
    have h1 : (x 1).val < 1792 := x 1 |>.isLt
    have hN := N_eq
    have ht := t.isLt
    have e0 : win0_4.index t 0 * win0_4.size 0 + 1 * (x 0).val = 512 * t.val + r.val := by rw [(at_4 t).1, hr, one_mul]
    have e1 : win0_4.index t 1 * win0_4.size 1 + 1 * (x 1).val = C.val := by rw [(at_4 t).2.1, hC]; omega
    show _ = Normed.entry _ _ _ (⟨win0_4.index t 0 * win0_4.size 0 + 1 * (x 0).val, by omega⟩ : Fin 32768)
      (⟨(win0_4.index t 1 * win0_4.size 1 + 1 * (x 1).val), by omega⟩ : Fin 3328)
    simp only [e0, e1]

/-- An index of the result lies in the block of the point its row names. -/
theorem mem_rec (t : Fin cfg0.N) (i : S32768x1792.Idx) (h : 512 * t.val ≤ (i 0).val ∧ (i 0).val < 512 * t.val + 512) :
    i ∈ ((cfg0.win 4).blk t).view.set := by
  show i ∈ ((View.whole main_v6_0).slice (win0_4.rect t)).set
  rw [View.set_slice_whole, Rect.mem_set_unit]
  have h1 : (i 1 : Nat) < 1792 := (i 1).isLt
  have e := at_4 t
  intro a
  match a with
  | ⟨0, _⟩ =>
    show win0_4.index t 0 * win0_4.size 0 ≤ (i 0 : Nat)
      ∧ (i 0 : Nat) < win0_4.index t 0 * win0_4.size 0 + win0_4.xsize (grid0.coords t) 0
    rw [e.1, e.2.2.1]; exact h
  | ⟨1, _⟩ =>
    show win0_4.index t 1 * win0_4.size 1 ≤ (i 1 : Nat)
      ∧ (i 1 : Nat) < win0_4.index t 1 * win0_4.size 1 + win0_4.xsize (grid0.coords t) 1
    rw [e.2.1, e.2.2.2]; omega

theorem cover_rec (i : S32768x1792.Idx) :
    ∃ t : Fin cfg0.N, (cfg0.win 4).flush t = true ∧ i ∈ ((cfg0.win 4).blk t).view.set := by
  have h0 : (i 0 : Nat) < 32768 := (i 0).isLt
  have hN := N_eq
  refine ⟨⟨(i 0).val / 512, by omega⟩, flush0_4 _, mem_rec _ _ ?_⟩
  dsimp only
  omega

theorem final_rec (c : Dev nD) : (dats m 0 c).arrAt 4 cfg0.N = Normed.recRows (argX m c) (argN m c) (argW m c) :=
  (dats m 0 c).arrAt_eq_of_cover 4 (Normed.recRows (argX m c) (argN m c) (argW m c)) (fun t _ => flushed_rec m c t) cover_rec

/-- One entry of what a point leaves in the attention's block. -/
theorem point_att (c : Dev nD) (t : Fin cfg0.N) (r : Fin 512) (C : Fin 1536) :
    out0_5 (iblk m c 0 t) (iblk m c 1 t) (iblk m c 2 t) (iblk m c 3 t) (ix2 r C)
      = Normed.entry (argX m c) (argN m c) (argW m c) (⟨512 * t.val + r.val, by have := N_eq; have := t.isLt; omega⟩ : Fin 32768) (⟨1792 + C.val, by omega⟩ : Fin 3328) :=
  (att_apply _ _ _ _ r C).trans (dotted_congr (funext fun k => iblk_0 m c t r k) (funext fun k => iblk_1 m c t k) (funext fun k => iblk_3 m c t k C))

theorem at_5 : ∀ t : Fin cfg0.N, win0_5.index t 0 * win0_5.size 0 = 512 * t.val ∧ win0_5.index t 1 * win0_5.size 1 = 0
    ∧ win0_5.xsize (grid0.coords t) 0 = 512 ∧ win0_5.xsize (grid0.coords t) 1 = 1536 :=
  (by decide +kernel : ∀ t : Fin grid0.N, win0_5.index t 0 * win0_5.size 0 = 512 * t.val ∧ win0_5.index t 1 * win0_5.size 1 = 0
    ∧ win0_5.xsize (grid0.coords t) 0 = 512 ∧ win0_5.xsize (grid0.coords t) 1 = 1536)

/-- What a point writes back is its block of the whole result. -/
theorem flushed_att (c : Dev nD) (t : Fin cfg0.N) :
    (dats m 0 c).flushed 5 t = ((cfg0.win 5).blk t).view.read (Elt Ideal) (Normed.attRows (argX m c) (argN m c) (argW m c)) := by
  rw [Cert.ProjectionIdeal.Value.flushed5]
  refine funext fun (x : S512x1536.Idx) => ?_
  obtain ⟨r, hr⟩ : ∃ r : Fin 512, r.val = (x 0).val := ⟨⟨(x 0).val, (x 0).isLt⟩, rfl⟩
  obtain ⟨C, hC⟩ : ∃ C : Fin 1536, C.val = (x 1).val := ⟨⟨(x 1).val, (x 1).isLt⟩, rfl⟩
  refine Eq.trans ?_ ((point_att m c t r C).trans ?_)
  · show out0_5 (iblk m c 0 t) (iblk m c 1 t) (iblk m c 2 t) (iblk m c 3 t) _ = _
    refine congrArg (out0_5 (iblk m c 0 t) (iblk m c 1 t) (iblk m c 2 t) (iblk m c 3 t)) (funext fun a => Fin.ext ?_)
    match a with
    | ⟨0, _⟩ => exact hr.symm
    | ⟨1, _⟩ => exact hC.symm
  · have h0 := x 0 |>.isLt
    have h1 : (x 1).val < 1536 := x 1 |>.isLt
    have hN := N_eq
    have ht := t.isLt
    have e0 : win0_5.index t 0 * win0_5.size 0 + 1 * (x 0).val = 512 * t.val + r.val := by rw [(at_5 t).1, hr, one_mul]
    have e1 : win0_5.index t 1 * win0_5.size 1 + 1 * (x 1).val = C.val := by rw [(at_5 t).2.1, hC]; omega
    show _ = Normed.entry _ _ _ (⟨win0_5.index t 0 * win0_5.size 0 + 1 * (x 0).val, by omega⟩ : Fin 32768)
      (⟨1792 + (win0_5.index t 1 * win0_5.size 1 + 1 * (x 1).val), by omega⟩ : Fin 3328)
    simp only [e0, e1]

/-- An index of the result lies in the block of the point its row names. -/
theorem mem_att (t : Fin cfg0.N) (i : S32768x1536.Idx) (h : 512 * t.val ≤ (i 0).val ∧ (i 0).val < 512 * t.val + 512) :
    i ∈ ((cfg0.win 5).blk t).view.set := by
  show i ∈ ((View.whole main_v6_1).slice (win0_5.rect t)).set
  rw [View.set_slice_whole, Rect.mem_set_unit]
  have h1 : (i 1 : Nat) < 1536 := (i 1).isLt
  have e := at_5 t
  intro a
  match a with
  | ⟨0, _⟩ =>
    show win0_5.index t 0 * win0_5.size 0 ≤ (i 0 : Nat)
      ∧ (i 0 : Nat) < win0_5.index t 0 * win0_5.size 0 + win0_5.xsize (grid0.coords t) 0
    rw [e.1, e.2.2.1]; exact h
  | ⟨1, _⟩ =>
    show win0_5.index t 1 * win0_5.size 1 ≤ (i 1 : Nat)
      ∧ (i 1 : Nat) < win0_5.index t 1 * win0_5.size 1 + win0_5.xsize (grid0.coords t) 1
    rw [e.2.1, e.2.2.2]; omega

theorem cover_att (i : S32768x1536.Idx) :
    ∃ t : Fin cfg0.N, (cfg0.win 5).flush t = true ∧ i ∈ ((cfg0.win 5).blk t).view.set := by
  have h0 : (i 0 : Nat) < 32768 := (i 0).isLt
  have hN := N_eq
  refine ⟨⟨(i 0).val / 512, by omega⟩, flush0_5 _, mem_att _ _ ?_⟩
  dsimp only
  omega

theorem final_att (c : Dev nD) : (dats m 0 c).arrAt 5 cfg0.N = Normed.attRows (argX m c) (argN m c) (argW m c) :=
  (dats m 0 c).arrAt_eq_of_cover 5 (Normed.attRows (argX m c) (argN m c) (argW m c)) (fun t _ => flushed_att m c t) cover_att

/-- So the run ends with both results whole and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v6_0) = Normed.recRows (argX m c) (argN m c) (argW m c)
      ∧ r.2.mem ((c : Thread nD τ).loc main_v6_1) = Normed.attRows (argX m c) (argN m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_rec m c), ((h c).2.1).trans (final_att m c), (h c).2.2⟩)
    (Cert.ProjectionIdeal.Value.run_blocks m ρ)

end Cert.ProjectionIdeal.Proj

end
-- ==== Proof.ProjRef.lean ====
/-
  THE REFERENCE of the input projection, read at an element.
-/
module

public import proofs.«01_k».proof.Proof.Gen.ProjectionReferenceIdeal.Run
public import proofs.«01_k».proof.Proof.Normed

@[expose] public section

set_option maxRecDepth 16384

noncomputable section

namespace Cert.ProjRef

open Idealize.ShloMosaic Idealize.ShloMosaic.TcCoe Idealize.SL.Sem
open Cert.ProjectionReferenceIdeal Cert.ProjectionReferenceIdeal.Gen

/-- The normed rows, as the reference's lines compute them. -/
def normVec (x : FVec Ideal S16x2048x1024 .f32) (w : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 w))

/-- Their products with the matrix. -/
def prodVec (y : FVec Ideal S16x2048x1024 .f32) (a : FVec Ideal S1024x3328 .f32) : FVec Ideal S16x2048x3328 .f32 :=
  Host.dotGeneral dot_S16x2048x1024_S1024x3328_S16x2048x3328_2_0_01_1_n_n none y a

/-- The recurrence's columns as rows. -/
def recVec (z : FVec Ideal S16x2048x3328 .f32) : FVec Ideal S32768x1792 .f32 :=
  shapeCast _ (extractStridedSlice S16x2048x1792 ![0, 0, 0] z slices_S16x2048x3328_S16x2048x1792_0_0_0) shapeCasts_S16x2048x1792_S32768x1792

/-- The attention's columns as rows. -/
def attVec (z : FVec Ideal S16x2048x3328 .f32) : FVec Ideal S32768x1536 .bf16 :=
  truncf .bf16 (shapeCast _ (extractStridedSlice S16x2048x1536 ![0, 0, 1792] z slices_S16x2048x3328_S16x2048x1536_0_0_1792) shapeCasts_S16x2048x1536_S32768x1536 : FVec Ideal S32768x1536 .f32) bitsLt_bf16_f32

theorem norm_apply (x : FVec Ideal S16x2048x1024 .f32) (w : FVec Ideal S1024 .f32) (b : Fin 16) (s : Fin 2048) (k : Fin 1024) :
    normVec x w (ix3 b s k) = x (ix3 b s k) * Normed.scaleOf (fun k => x (ix3 b s k)) * w (ix1 k) := by
  unfold normVec Normed.scaleOf
  pointwise

theorem prod_apply (y : FVec Ideal S16x2048x1024 .f32) (a : FVec Ideal S1024x3328 .f32) (b : Fin 16) (s : Fin 2048) (C : Fin 3328) :
    prodVec y a (ix3 b s C) = ∑ k : Fin 1024, y (ix3 b s k) * a (ix2 k C) := by
  unfold prodVec
  pointwise

theorem rec_apply (z : FVec Ideal S16x2048x3328 .f32) (R : Fin 32768) (C : Fin 1792) :
    recVec z (ix2 R C) = z (ix3 (⟨R.val / 2048, by omega⟩ : Fin 16) (⟨R.val % 2048, by omega⟩ : Fin 2048) (⟨C.val, by omega⟩ : Fin 3328)) := by
  unfold recVec
  pointwise

theorem att_apply (z : FVec Ideal S16x2048x3328 .f32) (R : Fin 32768) (C : Fin 1536) :
    attVec z (ix2 R C) = z (ix3 (⟨R.val / 2048, by omega⟩ : Fin 16) (⟨R.val % 2048, by omega⟩ : Fin 2048) (⟨1792 + C.val, by omega⟩ : Fin 3328)) := by
  unfold attVec
  pointwise

theorem entry_eq (x : FVec Ideal S16x2048x1024 .f32) (w : FVec Ideal S1024 .f32) (a : FVec Ideal S1024x3328 .f32) (R : Fin 32768) (C : Fin 3328) :
    prodVec (normVec x w) a (ix3 (⟨R.val / 2048, by omega⟩ : Fin 16) (⟨R.val % 2048, by omega⟩ : Fin 2048) C) = Normed.entry x w a R C := by
  unfold Normed.entry Normed.dotted
  refine (prod_apply _ a _ _ C).trans (Finset.sum_congr rfl fun k _ => ?_)
  exact congrArg (· * a (ix2 k C)) (norm_apply x w _ _ k)

/-- The reference's first result, -/
theorem rec_eq (x : FVec Ideal S16x2048x1024 .f32) (w : FVec Ideal S1024 .f32) (a : FVec Ideal S1024x3328 .f32) :
    recVec (prodVec (normVec x w) a) = Normed.recRows x w a := by
  refine funext fun (i : S32768x1792.Idx) => ?_
  obtain ⟨R, hR⟩ : ∃ R : Fin 32768, R = i 0 := ⟨i 0, rfl⟩
  obtain ⟨C, hC⟩ : ∃ C : Fin 1792, C = i 1 := ⟨i 1, rfl⟩
  have hi : i = ix2 R C := funext fun a => by
    match a with
    | ⟨0, _⟩ => exact hR.symm
    | ⟨1, _⟩ => exact hC.symm
  rw [hi]
  exact (rec_apply _ R C).trans (entry_eq x w a R _)

/-- and its second. -/
theorem att_eq (x : FVec Ideal S16x2048x1024 .f32) (w : FVec Ideal S1024 .f32) (a : FVec Ideal S1024x3328 .f32) :
    attVec (prodVec (normVec x w) a) = Normed.attRows x w a := by
  refine funext fun (i : S32768x1536.Idx) => ?_
  obtain ⟨R, hR⟩ : ∃ R : Fin 32768, R = i 0 := ⟨i 0, rfl⟩
  obtain ⟨C, hC⟩ : ∃ C : Fin 1536, C = i 1 := ⟨i 1, rfl⟩
  have hi : i = ix2 R C := funext fun a => by
    match a with
    | ⟨0, _⟩ => exact hR.symm
    | ⟨1, _⟩ => exact hC.symm
  rw [hi]
  exact (att_apply _ R C).trans (entry_eq x w a R _)

end Cert.ProjRef

end
-- ==== Proof.ProjClaims.lean ====
/-
  THE CLAIMS of the input projection: it ends with its arguments kept, and its two results are the reference's.
-/
module

public import proofs.«01_k».proof.Defs
public import proofs.«01_k».proof.Proof.Gen.Projection.Frame
public import proofs.«01_k».proof.Proof.ProjArray
public import proofs.«01_k».proof.Proof.ProjRef
public import Idealize.ShloMosaic.Lib.Quiescent

@[expose] public section

noncomputable section

namespace Cert.Proof

open Idealize.ShloMosaic Idealize.SL.Sem

theorem projection_quiescent : Cert.quiescent_Projection (hProjection := Cert.Projection.Gen.facts) :=
  fun m g _ => Cert.Projection.Gen.frame m g

theorem projectionIdeal_quiescent : Cert.quiescent_ProjectionIdeal (hProjectionIdeal := Cert.ProjectionIdeal.Gen.facts) :=
  fun m g _ => Cert.ProjectionIdeal.Gen.frame m g

theorem projectionReference_quiescent : Cert.quiescent_ProjectionReferenceIdeal (hProjectionReferenceIdeal := Cert.ProjectionReferenceIdeal.Gen.facts) :=
  fun m g _ => (θ_run _ _ _).mono
    (fun r h => ⟨fun c => (h c).2.2, sem_eq_zero_of_no_sems (by decide) r.2⟩)
    (Cert.ProjectionReferenceIdeal.Value.run (F := Ideal) m g)

/-- The kernel's products and the reference's are the same two arrays. -/
theorem projection_algebraic : Cert.algebraic_ProjectionIdeal_ProjectionReferenceIdeal (hProjectionIdeal := Cert.ProjectionIdeal.Gen.facts)
    (hProjectionReferenceIdeal := Cert.ProjectionReferenceIdeal.Gen.facts) := by
  intro m g m' g' _ hag
  refine ⟨fun c => Cert.Normed.recRows (Cert.ProjectionIdeal.Proj.argX m c) (Cert.ProjectionIdeal.Proj.argN m c) (Cert.ProjectionIdeal.Proj.argW m c),
    fun c => Cert.Normed.attRows (Cert.ProjectionIdeal.Proj.argX m c) (Cert.ProjectionIdeal.Proj.argN m c) (Cert.ProjectionIdeal.Proj.argW m c),
    Cert.ProjectionIdeal.Proj.run m g,
    (θ_run _ _ _).mono (fun r h c => ⟨(h c).1.trans ?_, (h c).2.1.trans ?_, (h c).2.2⟩)
      (Cert.ProjectionReferenceIdeal.Value.run (F := Ideal) m' g')⟩
  · rw [(hag c).1, (hag c).2.1, (hag c).2.2]
    exact Cert.ProjRef.rec_eq _ _ _
  · rw [(hag c).1, (hag c).2.1, (hag c).2.2]
    exact Cert.ProjRef.att_eq _ _ _

end Cert.Proof

end
-- ==== Proof.lean ====
/-
  THE ATTENTION OF THE LAYER, from its queries, keys and values: each row attends to the rows of its own chunk of 64 and of
  the eight chunks before, with a bias per head and distance.  The kernel walks the sequence in blocks of 256 rows and takes each
  block's scores against three blocks of keys at once; the reference gathers every row's own window.  From real
  queries, keys and biases the two write the same rows.
  THE EXPERTS, from the rows in the order of their experts and the experts' counts, and THE INPUT PROJECTION, from the
  rows, have their claims in modules of their own; they are gathered here.
-/
module

public import proofs.«01_k».proof.Defs
public import proofs.«01_k».proof.Proof.Equation
public import proofs.«01_k».proof.Proof.Finite
public import proofs.«01_k».proof.Proof.Gen.Kernel.Frame
public import proofs.«01_k».proof.Proof.Gen.KernelIdeal.Frame
public import proofs.«01_k».proof.Proof.Gen.ReferenceIdeal.Run
public import proofs.«01_k».proof.Proof.FfnClaims
public import proofs.«01_k».proof.Proof.ProjClaims
public import Idealize.ShloMosaic.Lib.Quiescent

@[expose] public section

noncomputable section

namespace Cert.Proof

open Idealize.ShloMosaic Idealize.SL.Sem

/-- The reference runs to the end, keeps its arguments and uses no semaphore. -/
theorem reference_quiescent : Cert.quiescent_ReferenceIdeal (hReferenceIdeal := Cert.ReferenceIdeal.Gen.facts) :=
  fun m g _ => (θ_run _ _ _).mono
    (fun r h => ⟨fun c => (h c).2, sem_eq_zero_of_no_sems (by decide) r.2⟩)
    (Cert.ReferenceIdeal.Value.run (F := Ideal) m g)

/-- The mask the kernel writes as a large negative number is read as minus infinity. -/
theorem preserves : Cert.preserves_Kernel_KernelIdeal :=
  IdealRules.named_const.statement Cert.KernelIdeal.κ "mask" .f32 0xF149F2CA#32 ⊥ rfl

/-- From real queries, keys and biases the kernel's rows are the reference's. -/
theorem algebraic : Cert.algebraic_KernelIdeal_ReferenceIdeal_pre_finite
    (hKernelIdeal := Cert.KernelIdeal.Gen.facts) (hReferenceIdeal := Cert.ReferenceIdeal.Gen.facts)
    (hPre_finite := Cert.Attn.preFacts) := by
  intro m g m' g' hpre hag
  refine ⟨fun c => Cert.Attn.mixedRows (Cert.Attn.argZ m c) (Cert.Attn.argB m c), Cert.Attn.run m g,
    (θ_run _ _ _).mono (fun r h c => ⟨(h c).1.trans ?_, (h c).2⟩) (Cert.ReferenceIdeal.Value.run (F := Ideal) m' g')⟩
  rw [Cert.AttnRef.res_eq, (hag c).1, (hag c).2]
  exact (Cert.Attn.rows_eq (@Cert.Attn.finiteArgs Cert.Attn.preFacts _ _ (hpre c))).symm

/-- Everything the certificate claims. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Projection.Gen.facts, Cert.ProjectionIdeal.Gen.facts, Cert.ProjectionReferenceIdeal.Gen.facts, Cert.Attn.preFacts,
    fun m g _ => Cert.Kernel.Gen.frame m g,
    fun m g _ => Cert.KernelIdeal.Gen.frame m g,
    fun m g _ => Cert.KernelIdeal.Gen.frame m g,
    reference_quiescent,
    fun m g _ => reference_quiescent m g trivial,
    experts_quiescent, expertsIdeal_quiescent, expertsReference_quiescent,
    projection_quiescent, projectionIdeal_quiescent, projectionReference_quiescent,
    preserves, algebraic, trivial, experts_algebraic, trivial, projection_algebraic⟩

end Cert.Proof

end
